-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S8x100096 : Shape := ⟨2, ![8, 100096]⟩
abbrev S8x256 : Shape := ⟨2, ![8, 256]⟩
abbrev S8 : Shape := ⟨1, ![8]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x100096, .f32⟩
  | .local _ .vmem, ⟨1, _⟩ => ⟨S8x100096, .f32⟩
  | .local _ .vmem, ⟨2, _⟩ => ⟨S8x100096, .f32⟩
  | .local _ .vmem, ⟨3, _⟩ => ⟨S8x100096, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩
abbrev S128x1 : Shape := ⟨2, ![128, 1]⟩
abbrev S128x2 : Shape := ⟨2, ![128, 2]⟩

abbrev nBuf : Space → Nat
  | .hbm => 302
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S128x100000, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .i32⟩
  | 19 => ⟨S_, .f32⟩
  | 20 => ⟨S_, .i32⟩
  | 21 => ⟨S128, .f32⟩
  | 22 => ⟨S128, .i32⟩
  | 23 => ⟨S_, .f32⟩
  | 24 => ⟨S128x100000, .f32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i32⟩
  | 39 => ⟨S128, .i32⟩
  | 40 => ⟨S128x1, .i32⟩
  | 41 => ⟨S128x1, .i32⟩
  | 42 => ⟨S128x2, .i32⟩
  | 43 => ⟨S_, .f32⟩
  | 44 => ⟨S128, .f32⟩
  | 45 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_cst_8 : Ref sig .tc := ⟨.hbm, 265, rfl⟩
abbrev main_v33 : Ref sig .tc := ⟨.hbm, 266, rfl⟩
abbrev main_v34 : Ref sig .tc := ⟨.hbm, 267, rfl⟩
abbrev main_v35 : Ref sig .tc := ⟨.hbm, 268, rfl⟩
abbrev main_v36 : Ref sig .tc := ⟨.hbm, 269, rfl⟩
abbrev main_v37 : Ref sig .tc := ⟨.hbm, 270, rfl⟩
abbrev main_v38 : Ref sig .tc := ⟨.hbm, 271, rfl⟩
abbrev main_v39 : Ref sig .tc := ⟨.hbm, 272, rfl⟩
abbrev main_v40 : Ref sig .tc := ⟨.hbm, 273, rfl⟩
abbrev main_call1_v0 : Ref sig .tc := ⟨.hbm, 274, rfl⟩
abbrev main_call1_cst : Ref sig .tc := ⟨.hbm, 275, rfl⟩
abbrev main_call1_c : Ref sig .tc := ⟨.hbm, 276, rfl⟩
abbrev main_call1_v1_0 : Ref sig .tc := ⟨.hbm, 277, rfl⟩
abbrev main_v41 : Ref sig .tc := ⟨.hbm, 278, rfl⟩
abbrev main_cst_9 : Ref sig .tc := ⟨.hbm, 279, rfl⟩
abbrev main_v42 : Ref sig .tc := ⟨.hbm, 280, rfl⟩
abbrev main_v43 : Ref sig .tc := ⟨.hbm, 281, rfl⟩
abbrev main_c_10 : Ref sig .tc := ⟨.hbm, 282, rfl⟩
abbrev main_v44 : Ref sig .tc := ⟨.hbm, 283, rfl⟩
abbrev main_v45 : Ref sig .tc := ⟨.hbm, 284, rfl⟩
abbrev main_c_11 : Ref sig .tc := ⟨.hbm, 285, rfl⟩
abbrev main_v46 : Ref sig .tc := ⟨.hbm, 286, rfl⟩
abbrev main_v47 : Ref sig .tc := ⟨.hbm, 287, rfl⟩
abbrev main_v48 : Ref sig .tc := ⟨.hbm, 288, rfl⟩
abbrev main_c_12 : Ref sig .tc := ⟨.hbm, 289, rfl⟩
abbrev main_v49 : Ref sig .tc := ⟨.hbm, 290, rfl⟩
abbrev main_v50 : Ref sig .tc := ⟨.hbm, 291, rfl⟩
abbrev main_c_13 : Ref sig .tc := ⟨.hbm, 292, rfl⟩
abbrev main_v51 : Ref sig .tc := ⟨.hbm, 293, rfl⟩
abbrev main_v52 : Ref sig .tc := ⟨.hbm, 294, rfl⟩
abbrev main_v53 : Ref sig .tc := ⟨.hbm, 295, rfl⟩
abbrev main_v54 : Ref sig .tc := ⟨.hbm, 296, rfl⟩
abbrev main_v55 : Ref sig .tc := ⟨.hbm, 297, rfl⟩
abbrev main_v56 : Ref sig .tc := ⟨.hbm, 298, rfl⟩
abbrev main_cst_14 : Ref sig .tc := ⟨.hbm, 299, rfl⟩
abbrev main_v57 : Ref sig .tc := ⟨.hbm, 300, rfl⟩
abbrev main_v58 : Ref sig .tc := ⟨.hbm, 301, rfl⟩

abbrev nD : Nat := 1
abbrev τ : Topo := Topo.v7x

variable {F : FTy → Type} [FloatOps F]
-- ==== Proof.Body.lean ====
/- The sampler's body as a scan over the chunks of a block followed by the stores of its one-hot rows. -/
module

public import proofs.«01_k».proof.KernelIdeal
public import Idealize.ShloMosaic.Lib.Pipeline.Regions

@[expose] public section

noncomputable section

namespace Cert.Sampler

open Idealize.ShloMosaic Idealize.SL.Sem

variable {F : FTy → Type} [FloatOps F] {s : Shape}

/-- One rotation. -/
def vrotl (x : IVec s 32) (l r : BitVec 32) : IVec s 32 := ori (shli x (broadcast s l)) (shrui x (broadcast s r))

/-- One round. -/
def vround (l r : BitVec 32) (p : IVec s 32 × IVec s 32) : IVec s 32 × IVec s 32 :=
  (addi p.1 p.2, xori (addi p.1 p.2) (vrotl p.2 l r))

/-- A key injection: each of the two words plus its constant. -/
def vinj (a b : BitVec 32) (p : IVec s 32 × IVec s 32) : IVec s 32 × IVec s 32 :=
  (addi p.1 (broadcast s a), addi p.2 (broadcast s b))

/-- Four rounds at the first set of rotations. -/
def vgrpA (p : IVec s 32 × IVec s 32) : IVec s 32 × IVec s 32 :=
  vround 6#32 26#32 (vround 26#32 6#32 (vround 15#32 17#32 (vround 13#32 19#32 p)))

/-- Four rounds at the second set of rotations. -/
def vgrpB (p : IVec s 32 × IVec s 32) : IVec s 32 × IVec s 32 :=
  vround 24#32 8#32 (vround 16#32 16#32 (vround 29#32 3#32 (vround 17#32 15#32 p)))

/-- The first four rounds from the words `0` and `c`: the first of them is `c` and `c` mixed with its rotation. -/
def vfirst (c : IVec s 32) : IVec s 32 × IVec s 32 :=
  vround 6#32 26#32 (vround 26#32 6#32 (vround 15#32 17#32 (c, xori c (vrotl c 13#32 19#32))))

/-- The twenty rounds with their key injections, from the counter word `c` (the key word already added). -/
def vthree (c : IVec s 32) : IVec s 32 × IVec s 32 :=
  vinj 466689008#32 5#32 (vgrpA (vinj 42#32 466689012#32 (vgrpB (vinj 0#32 45#32 (vgrpA (vinj 466689008#32 2#32
    (vgrpB (vinj 42#32 466689009#32 (vfirst c)))))))))

/-- The random word: the two words of the generator mixed together. -/
def vword (c : IVec s 32) : IVec s 32 := xori (vthree c).1 (vthree c).2

/-- The score of a chunk: the Gumbel noise drawn at the counters plus the log of the shifted logits. -/
def vt (c : IVec s 32) (x : FVec F s .f32) : FVec F s .f32 :=
  addf (subf (broadcast s (Scalar.ofBits .f32 0x00000000#32)) (log (subf (broadcast s (Scalar.ofBits .f32 0x00000000#32))
    (log (maximumf (broadcast s (Scalar.ofBits .f32 0x00800000#32))
      (subf (bitcastToFloat .f32 (ori (shrui (vword c) (broadcast s 9#32)) (broadcast s 1065353216#32)))
        (broadcast s (Scalar.ofBits .f32 0x3F800000#32))))))))
    (log (addf x (broadcast s (Scalar.ofBits .f32 0x2EDBE6FF#32))))

section
open Cert.KernelIdeal
open Facts₀ Facts
variable [Facts]

/-- Chunk `k` lies inside the staging buffer. -/
theorem inb (k : ℕ) (h : k < 391) : ∀ a, (![0, 256 * k] : Fin 2 → Nat) a + S8x256.size a ≤ S8x100096.size a := by
  intro a
  match a with
  | ⟨0, _⟩ => exact Nat.le_refl 8
  | ⟨1, _⟩ => change 256 * k + 256 ≤ 100096; omega

/-- Chunk `k`: all eight rows, columns `256 k` up. -/
abbrev rct (k : ℕ) (h : k < 391) := Rect.unit (s := S8x100096) ![0, 256 * k] S8x256.size (inb k h)

/-- The scan over `n` chunks from chunk `k`, with the running maximum `m` and the running chunk offset `ix`, then `K`. -/
def scanProg (arg1 : Memref sig .tc .vmem S8x100096 .f32) (c : IVec S8x256 32)
    (K : FVec F S8x256 .f32 → IVec S8x256 32 → Prog (TpuEff nD τ sig (Elt F) Λ₀ .tc) PUnit) :
    (n k : ℕ) → n + k ≤ 391 → FVec F S8x256 .f32 → IVec S8x256 32 → Prog (TpuEff nD τ sig (Elt F) Λ₀ .tc) PUnit
  | 0, _, _, m, ix => K m ix
  | n + 1, k, h, m, ix => .op (.load arg1 (rct k (by omega)).toLoadRect (View.loadsAt_vmem h_S8x256)) fun (x : Vec F S8x256 .f32) =>
      scanProg arg1 c K n (k + 1) (by omega) (maximumf m (vt (addi c (broadcast S8x256 (BitVec.ofNat 32 (256 * k)))) x))
        (select (cmpf .ogt (vt (addi c (broadcast S8x256 (BitVec.ofNat 32 (256 * k)))) x) m) (broadcast S8x256 (BitVec.ofNat 32 (256 * k))) ix)

/-- The one-hot values of a chunk at offset `b`, for the chosen columns `idx`. -/
def emitVal (col : IVec S8x256 32) (idx : IVec S8x1 32) (b : BitVec 32) : FVec F S8x256 .f32 :=
  sitofp .f32 (extui 32 (cmpi .eq (addi col (broadcast S8x256 b)) (broadcastTo S8x256 idx broadcasts_S8x1_S8x256)) natLt_1_32)

/-- The stores of `n` chunks of the one-hot result from chunk `k`. -/
def emitProg (arg2 : Memref sig .tc .vmem S8x100096 .f32) (col : IVec S8x256 32) (idx : IVec S8x1 32) :
    (n k : ℕ) → n + k ≤ 391 → Prog (TpuEff nD τ sig (Elt F) Λ₀ .tc) PUnit
  | 0, _, _ => .ret ⟨⟩
  | n + 1, k, h => .op (.load arg2 (rct k (by omega)).toLoadRect (View.loadsAt_vmem h_S8x256)) fun _ =>
      .op (.store arg2 (rct k (by omega)) (emitVal col idx (BitVec.ofNat 32 (256 * k))) Finset.univ (View.stores_vmem_bits_univ h_S8x256 rfl) (.inl rfl)) fun _ =>
        emitProg arg2 col idx n (k + 1) (by omega)

/-- The column numbers inside a chunk. -/
def colV : IVec S8x256 32 := iota .tc S8x256 32 [1] iota_S8x256_d1_w32

/-- The counter words of chunk 0 at a grid point, the key word already added. -/
def ctrV (i : grid0.Coords) : IVec S8x256 32 :=
  addi (addi (muli (addi (iota .tc S8x256 32 [0] iota_S8x256_d0_w32) (broadcast S8x256 (Scalar.muli (BitVec.ofNat 32 (i 0).val) 8#32)))
    (broadcast S8x256 100000#32)) colV) (broadcast S8x256 42#32)

/-- The score of the last chunk, with the columns past the array at minus infinity. -/
def tLast (c : IVec S8x256 32) (x : FVec F S8x256 .f32) : FVec F S8x256 .f32 :=
  select (cmpi .slt (addi colV (broadcast S8x256 99840#32)) (broadcast S8x256 100000#32)) (vt (addi c (broadcast S8x256 99840#32)) x)
    (broadcast S8x256 (Scalar.ofBits .f32 0xFF800000#32))

/-- The chosen column of each row from the per-lane maxima and offsets: the least column among the lanes that attain the row maximum. -/
def idxV (m : FVec F S8x256 .f32) (ix : IVec S8x256 32) : IVec S8x1 32 :=
  shapeCast S8x1 (multiReductionI .minsi [1] S8 (select (cmpf .oeq m (broadcastTo S8x256 (shapeCast S8x1
    (multiReduction .maximumf [1] S8 m 0xFF800000#32 reduces_S8x256_S8 (.inl rfl) rfl) shapeCasts_S8_S8x1) broadcasts_S8x1_S8x256))
      (addi ix colV) (broadcast S8x256 2147483647#32)) 2147483647#32 reduces_S8x256_S8 rfl) shapeCasts_S8_S8x1

/-- The body: the scan over 390 chunks, the last chunk, the stores. -/
def bodyProg (i : grid0.Coords) (arg1 arg2 : Memref sig .tc .vmem S8x100096 .f32) : Prog (TpuEff nD τ sig (Elt F) Λ₀ .tc) PUnit :=
  scanProg arg1 (ctrV i) (fun m ix =>
    .op (.load arg1 (rct 390 (by omega)).toLoadRect (View.loadsAt_vmem h_S8x256)) fun (x : Vec F S8x256 .f32) =>
      emitProg arg2 colV (idxV (maximumf m (tLast (ctrV i) x))
        (select (cmpf .ogt (tLast (ctrV i) x) m) (broadcast S8x256 99840#32) ix)) 391 0 (by omega))
    390 0 (by omega) (broadcast S8x256 (Scalar.ofBits .f32 0xFF800000#32)) (broadcast S8x256 0#32)

set_option maxRecDepth 100000 in
/-- The printed body is the scan followed by the stores. -/
theorem body_eq (i : grid0.Coords) (arg1 : Memref sig .tc .vmem S8x100096 .f32) (h1 : arg1.IsWhole)
    (arg2 : Memref sig .tc .vmem S8x100096 .f32) (h2 : arg2.IsWhole) :
    cc0__sampler_kernel (F := F) i arg1 h1 arg2 h2 = bodyProg i arg1 arg2 := by
  chain_rfl

end

end Cert.Sampler

end
-- ==== Proof.BodyRun.lean ====
/- The body run at symbolic staging buffers: what it leaves in the result's buffer, as a list of stores. -/
module

public import proofs.«01_k».proof.Proof.Body
public import proofs.«01_k».proof.Proof.Gen.KernelIdeal.Frame

@[expose] public section

noncomputable section

namespace Cert.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One step of the scan: the running maximum and offset after chunk `k`, whose logits are `x`. -/
def scanStep (c : IVec S8x256 32) (k : ℕ) (x : FVec F S8x256 .f32) (p : FVec F S8x256 .f32 × IVec S8x256 32) :
    FVec F S8x256 .f32 × IVec S8x256 32 :=
  (maximumf p.1 (vt (addi c (broadcast S8x256 (BitVec.ofNat 32 (256 * k)))) x),
    select (cmpf .ogt (vt (addi c (broadcast S8x256 (BitVec.ofNat 32 (256 * k)))) x) p.1) (broadcast S8x256 (BitVec.ofNat 32 (256 * k))) p.2)

/-- The scan's state after `n` chunks, reading chunk `k` as `rd k`. -/
def scanSt (c : IVec S8x256 32) (rd : ℕ → FVec F S8x256 .f32) : ℕ → FVec F S8x256 .f32 × IVec S8x256 32
  | 0 => (broadcast S8x256 (Scalar.ofBits .f32 0xFF800000#32), broadcast S8x256 0#32)
  | k + 1 => scanStep c k (rd k) (scanSt c rd k)

/-- The state after the last, masked chunk. -/
def scanEnd (c : IVec S8x256 32) (rd : ℕ → FVec F S8x256 .f32) : FVec F S8x256 .f32 × IVec S8x256 32 :=
  (maximumf (scanSt c rd 390).1 (tLast c (rd 390)),
    select (cmpf .ogt (tLast c (rd 390)) (scanSt c rd 390).1) (broadcast S8x256 99840#32) (scanSt c rd 390).2)

/-- The stores of the first `k` chunks, last first. -/
def pieces (col : IVec S8x256 32) (idx : IVec S8x1 32) : (k : ℕ) → k ≤ 391 → List (View.Piece (Elt F) S8x100096 .f32)
  | 0, _ => []
  | k + 1, h => ⟨rct k (by omega), emitVal col idx (BitVec.ofNat 32 (256 * k))⟩ :: pieces col idx k (by omega)

/-- Chunk `k` of a staging buffer's contents (nothing past the last chunk). -/
def chunk (M : Memref sig .tc .vmem S8x100096 .f32) (X : BufTy.Contents (Elt F) M.view.ty) (k : ℕ) : FVec F S8x256 .f32 :=
  if h : k < 391 then M.view.readAt (Elt F) (rct k h).toLoadRect X else broadcast S8x256 (Scalar.ofBits .f32 0x00000000#32)

/-- The stores run. -/
theorem emit_wp (c : Dev nD) (M : Memref sig .tc .vmem S8x100096 .f32) (Y : BufTy.Contents (Elt F) M.view.ty)
    (col : IVec S8x256 32) (idx : IVec S8x1 32) (E : Set ℕ) (Q : PUnit → sProp 𝕄) : ∀ (n k : ℕ) (h : n + k ≤ 391) (e : n + k = 391),
      iprop((M.view.loc (c : Thread nD τ) ↦[M.view.set]{fullShare} M.view.writes (Elt F) Y (pieces col idx k (by omega)))
          ∗ ((M.view.loc (c : Thread nD τ) ↦[M.view.set]{fullShare} M.view.writes (Elt F) Y (pieces col idx 391 le_rfl)) -∗ Q ⟨⟩))
        ⊢ wp frame (wpE (defs₀ (F := F)) Variants.none (c : Thread nD τ) none) E (emitProg (F := F) M col idx n k h) Q := by
  intro n
  induction n with
  | zero =>
    intro k h e
    obtain rfl : k = 391 := by omega
    iintro ⟨H, Hk⟩
    unfold emitProg
    sl_step
    iapply Hk
    iexact H
  | succ n ih =>
    intro k h e
    iintro ⟨H, Hk⟩
    unfold emitProg
    sl_step
    sl_step
    iapply ih (k + 1) _ (by omega)
    isplitl [H]
    · iexact H
    · iexact Hk

/-- The scan runs. -/
theorem scan_wp (c : Dev nD) (M : Memref sig .tc .vmem S8x100096 .f32) (X : BufTy.Contents (Elt F) M.view.ty)
    (w : IVec S8x256 32) (K : FVec F S8x256 .f32 → IVec S8x256 32 → Prog (TpuEff nD τ sig (Elt F) Λ₀ .tc) PUnit)
    (E : Set ℕ) (Q : PUnit → sProp 𝕄) : ∀ (n k : ℕ) (h : n + k ≤ 391) (e : n + k = 390),
      iprop((M.view.loc (c : Thread nD τ) ↦[M.view.set]{fullShare} X)
          ∗ ((M.view.loc (c : Thread nD τ) ↦[M.view.set]{fullShare} X)
            -∗ wp frame (wpE (defs₀ (F := F)) Variants.none (c : Thread nD τ) none) E
              (K (scanSt w (chunk M X) 390).1 (scanSt w (chunk M X) 390).2) Q))
        ⊢ wp frame (wpE (defs₀ (F := F)) Variants.none (c : Thread nD τ) none) E
            (scanProg (F := F) M w K n k h (scanSt w (chunk M X) k).1 (scanSt w (chunk M X) k).2) Q := by
  intro n
  induction n with
  | zero =>
    intro k h e
    obtain rfl : k = 390 := by omega
    iintro ⟨H, Hk⟩
    unfold scanProg
    iapply Hk
    iexact H
  | succ n ih =>
    intro k h e
    have hc : M.view.readAt (Elt F) (rct k (by omega)).toLoadRect X = chunk M X k := by
      unfold chunk; rw [dif_pos (show k < 391 by omega)]
    iintro ⟨H, Hk⟩
    unfold scanProg
    sl_step
    rw [hc]
    iapply ih (k + 1) (by omega) (by omega)
    isplitl [H]
    · iexact H
    · iexact Hk

/-- The body, from both buffers held whole, ends with the logits unchanged and the one-hot chunks stored. -/
theorem body_wp (c : Dev nD) (i : grid0.Coords) (M0 : Memref sig .tc .vmem S8x100096 .f32) (h0 : M0.IsWhole)
    (M1 : Memref sig .tc .vmem S8x100096 .f32) (h1 : M1.IsWhole) (X : BufTy.Contents (Elt F) M0.view.ty)
    (Y : BufTy.Contents (Elt F) M1.view.ty) (E : Set ℕ) (Q : PUnit → sProp 𝕄) :
      iprop((M0.view.loc (c : Thread nD τ) ↦[M0.view.set]{fullShare} X) ∗ (M1.view.loc (c : Thread nD τ) ↦[M1.view.set]{fullShare} Y)
          ∗ (iprop((M0.view.loc (c : Thread nD τ) ↦[M0.view.set]{fullShare} X)
              ∗ (M1.view.loc (c : Thread nD τ) ↦[M1.view.set]{fullShare} M1.view.writes (Elt F) Y
                  (pieces colV (idxV (scanEnd (ctrV i) (chunk M0 X)).1 (scanEnd (ctrV i) (chunk M0 X)).2) 391 le_rfl))) -∗ Q ⟨⟩))
        ⊢ wp frame (wpE (defs₀ (F := F)) Variants.none (c : Thread nD τ) none) E (cc0__sampler_kernel (F := F) i M0 h0 M1 h1) Q := by
  have hc : M0.view.readAt (Elt F) (rct 390 (by omega)).toLoadRect X = chunk M0 X 390 := by
    unfold chunk; rw [dif_pos (show 390 < 391 by omega)]
  rw [body_eq]
  unfold bodyProg
  iintro ⟨H0, H1, Hk⟩
  iapply scan_wp c M0 X (ctrV i) _ E Q 390 0 (by omega) rfl
  isplitl [H0]; · iexact H0
  iintro H0
  sl_step
  rw [hc]
  iapply emit_wp c M1 Y colV _ E Q 391 0 _ rfl
  isplitl [H1]; · iexact H1
  iintro H1
  iapply Hk
  isplitl [H0]; · iexact H0
  iexact H1

end Cert.Sampler

end
-- ==== Proof.KernelRun.lean ====
/- The sampler's run: the launch over the 16 row blocks and the result array it leaves, at any floats. -/
module

public import proofs.«01_k».proof.Proof.BodyRun
public import Idealize.ShloMosaic.Lib.Pipeline.KitQuiescent
public import Idealize.ShloMosaic.Lib.Pipeline.ValueKit.Geometry

@[expose] public section

noncomputable section

namespace Cert.Sampler

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-! ## A block's result as a function of its logits -/

/-- Chunk `k` of a block's logits. -/
def rdBlk (B : S8x100096.Idx → F .f32) (k : ℕ) : FVec F S8x256 .f32 :=
  if h : k < 391 then fun j => B ((rct k h).emb j) else broadcast S8x256 (Scalar.ofBits .f32 0x00000000#32)

/-- A chunk read from a staging buffer is the chunk of what the buffer holds. -/
theorem chunk_eq (M : Memref sig .tc .vmem S8x100096 .f32) (X : BufTy.Contents (Elt F) M.view.ty) :
    chunk M X = rdBlk (M.view.read (Elt F) X) := by
  funext k
  unfold chunk rdBlk
  split
  · rfl
  · rfl

/-- An index of a chunk by its coordinates. -/
def cix (r l : ℕ) (hr : r < 8) (hl : l < 256) : S8x256.Idx := fun a => match a with
  | ⟨0, _⟩ => ⟨r, hr⟩
  | ⟨1, _⟩ => ⟨l, hl⟩

/-- The one-hot block of the chosen columns `idx`. -/
def hotBlk (idx : IVec S8x1 32) (y : S8x100096.Idx) : F .f32 :=
  emitVal colV idx (BitVec.ofNat 32 (256 * ((y 1).val / 256)))
    (cix (y 0).val ((y 1).val % 256) (y 0).isLt (Nat.mod_lt _ (by decide)))

/-- The chosen columns of a block of logits. -/
def blkIdx (i : grid0.Coords) (B : S8x100096.Idx → F .f32) : IVec S8x1 32 :=
  idxV (scanEnd (ctrV i) (rdBlk B)).1 (scanEnd (ctrV i) (rdBlk B)).2

/-- Each stored chunk is the one-hot block's. -/
theorem pieces_hot (idx : IVec S8x1 32) : ∀ (k : ℕ) (h : k ≤ 391), ∀ p ∈ pieces (F := F) colV idx k h,
    ∀ x : p.1.shape.Idx, p.2 x = hotBlk (F := F) idx (p.1.emb x) := by
  intro k
  induction k with
  | zero => intro h p hp; exact absurd hp List.not_mem_nil
  | succ k ih =>
    intro h p hp
    rcases List.mem_cons.mp hp with rfl | hp
    · intro x
      have h0 : ((rct k (by omega)).emb x 0 : ℕ) = (x 0).val := by
        rw [Rect.emb_apply]; show 0 + 1 * (x 0).val = _; omega
      have h1 : ((rct k (by omega)).emb x 1 : ℕ) = 256 * k + (x 1).val := by
        rw [Rect.emb_apply]; show 256 * k + 1 * (x 1).val = _; omega
      have hx : (x 1).val < 256 := (x 1).isLt
      unfold hotBlk
      have e : cix ((rct k (by omega)).emb x 0).val (((rct k (by omega)).emb x 1).val % 256) ((rct k (by omega)).emb x 0).isLt
          (Nat.mod_lt _ (by decide)) = x := by
        funext a
        match a with
        | ⟨0, _⟩ => exact Fin.ext h0
        | ⟨1, _⟩ => exact Fin.ext (by show ((rct k (by omega)).emb x 1 : ℕ) % 256 = (x 1).val; rw [h1]; omega)
      rw [show (((rct k (by omega)).emb x 1 : ℕ)) / 256 = k by rw [h1]; omega]
      exact congrArg _ e.symm
    · exact ih _ p hp

/-- The chunks cover the block. -/
theorem pieces_cover (idx : IVec S8x1 32) (y : S8x100096.Idx) : ∀ (k : ℕ) (h : k ≤ 391), (y 1).val < 256 * k →
    ∃ p ∈ pieces (F := F) colV idx k h, y ∈ p.1.set := by
  intro k
  induction k with
  | zero => intro h hy; omega
  | succ k ih =>
    intro h hy
    by_cases hk : (y 1).val < 256 * k
    · obtain ⟨p, hp, hm⟩ := ih (by omega) hk
      exact ⟨p, List.mem_cons_of_mem _ hp, hm⟩
    · refine ⟨_, List.mem_cons_self, ?_⟩
      rw [Rect.mem_set_unit]
      intro a
      match a with
      | ⟨0, _⟩ => exact ⟨Nat.zero_le _, by show (y 0).val < 0 + 8; have := (y 0).isLt; change (y 0).val < 8 at this; omega⟩
      | ⟨1, _⟩ => exact ⟨by show 256 * k ≤ (y 1).val; omega, by show (y 1).val < 256 * k + 256; omega⟩

/-- What the stores leave in the result's staging buffer. -/
theorem read_pieces (M : Memref sig .tc .vmem S8x100096 .f32) (Y : BufTy.Contents (Elt F) M.view.ty) (idx : IVec S8x1 32) :
    M.view.read (Elt F) (M.view.writes (Elt F) Y (pieces colV idx 391 le_rfl)) = hotBlk (F := F) idx := by
  funext y
  exact View.read_writes_apply_of_pieces _ _ _ _ (pieces_hot idx 391 le_rfl) y
    (pieces_cover idx y 391 le_rfl (by have := (y 1).isLt; change (y 1).val < 100096 at this; omega))

/-- The last chunk's score at a lane: masked past the array's end. -/
theorem tLast_apply (c : IVec S8x256 32) (x : FVec F S8x256 .f32) (j : S8x256.Idx) : tLast c x j
    = Scalar.select (IntOp.cmpi .slt (IntOp.addi (colV j) 99840#32) 100000#32) (vt (addi c (broadcast S8x256 99840#32)) x j)
      (Scalar.ofBits .f32 0xFF800000#32) := rfl

/-- A lane's score reads the logit of that lane only. -/
theorem vt_congr {s : Shape} (c : IVec s 32) (x x' : FVec F s .f32) (j : s.Idx) (h : x j = x' j) : vt c x j = vt c x' j := by
  unfold vt addf log
  simp only [h]

/-- The column number of a lane. -/
theorem colV_apply (j : S8x256.Idx) : colV j = BitVec.ofNat 32 (j 1).val := by
  show BitVec.ofNat 32 (0 * 256 + (j 1).val) = _
  rw [Nat.zero_mul, Nat.zero_add]

/-- The mask of the last chunk, lane by lane. -/
theorem mask_lane : ∀ n : Fin 256, IntOp.cmpi .slt (IntOp.addi (BitVec.ofNat 32 n.val) 99840#32) 100000#32 = BitVec.ofBool (decide (n.val < 160)) := by
  decide +kernel

theorem mask_out (j : S8x256.Idx) (h : ¬ (j 1).val < 160) :
    IntOp.cmpi .slt (IntOp.addi (colV j) 99840#32) 100000#32 = 0#1 := by
  rw [colV_apply, mask_lane ⟨(j 1).val, (j 1).isLt⟩, decide_eq_false h]; rfl

theorem mask_in (j : S8x256.Idx) (h : (j 1).val < 160) :
    IntOp.cmpi .slt (IntOp.addi (colV j) 99840#32) 100000#32 = 1#1 := by
  rw [colV_apply, mask_lane ⟨(j 1).val, (j 1).isLt⟩, decide_eq_true h]; rfl

/-- The chosen columns read no column past the array's end: there the score is masked. -/
theorem blkIdx_congr (i : grid0.Coords) (B B' : S8x100096.Idx → F .f32) (h : ∀ y : S8x100096.Idx, (y 1).val < 100000 → B y = B' y) :
    blkIdx i B = blkIdx i B' := by
  have hr : ∀ k, k < 390 → rdBlk B k = rdBlk B' k := by
    intro k hk
    unfold rdBlk
    rw [dif_pos (show k < 391 by omega), dif_pos (show k < 391 by omega)]
    funext j
    refine h _ ?_
    rw [Rect.emb_apply]
    have := (j 1).isLt; change (j 1).val < 256 at this
    show 256 * k + 1 * (j 1).val < _; omega
  have hs : ∀ n, n ≤ 390 → scanSt (ctrV i) (rdBlk B) n = scanSt (ctrV i) (rdBlk B') n := by
    intro n
    induction n with
    | zero => intro _; rfl
    | succ n ih => intro hn; unfold scanSt; rw [ih (by omega), hr n (by omega)]
  have hl : tLast (ctrV i) (rdBlk B 390) = tLast (ctrV i) (rdBlk B' 390) := by
    funext j
    rw [tLast_apply, tLast_apply]
    by_cases hj : (j 1).val < 160
    · have hb : rdBlk B 390 j = rdBlk B' 390 j := by
        unfold rdBlk
        rw [dif_pos (show 390 < 391 by omega), dif_pos (show 390 < 391 by omega)]
        refine h _ ?_
        rw [Rect.emb_apply]
        show 256 * 390 + 1 * (j 1).val < _; omega
      rw [vt_congr _ _ _ j hb]
    · rw [mask_out j hj]; rfl
  unfold blkIdx scanEnd
  rw [hs 390 le_rfl, hl]

/-! ## The proof data -/

variable (m : (ℓ : Loc nD τ sig) → Buf (Elt F) ℓ) (ρ : Dev nD → PrngReg)

/-- A row block of the logits as the fetch leaves it, zeros past the array's end. -/
def xb (x : S128x100000.Idx → F .f32) (t : Fin cfg0.N) : S8x100096.Idx → F .f32 :=
  win0_0.fill (grid0.coords t) (fun _ => Scalar.ofBits .f32 0#32) ((win0_0.blk t).view.read (Elt F) x)

/-- The logits' contents at launch. -/
abbrev xin (c : Dev nD) : S128x100000.Idx → F .f32 := m ((c : Thread nD τ).loc main_arg0)

/-- The proof data: the arrays as launched; after the body the logits' block and its one-hot block; no invariant. -/
def dats (_ : Fin 1) (c : Dev nD) : Dat τ (Elt F) Unit ℕ (UR sig nD τ) ℕ cfg0 c where
  A w := (s₀ m ρ).mem ((cfg0.win w).arr.view.loc (c : Thread nD τ))
  after w t := match w with
    | ⟨0, _⟩ => xb (xin m c) t
    | ⟨1, _⟩ => hotBlk (blkIdx (grid0.coords t) (xb (xin m c) t))
  Φ _ := iprop(emp)
  q _ := fullShare
  owed _ := 0

/-- The logits' staging buffer as the body finds it: the block just fetched, anything past the array's end. -/
theorem before_0 (c : Dev nD) (t : Fin cfg0.N) (d) :
    (dats m ρ 0 c).before (0 : Fin 2) t d = win0_0.fill (grid0.coords t) d ((win0_0.blk t).view.read (Elt F) (xin m c)) := by
  unfold Dat.before; rw [if_pos (fetch0_0 t)]; rfl

/-- The result's staging buffer as the body finds it: anything. -/
theorem before_1 (c : Dev nD) (t : Fin cfg0.N) (d) : (dats m ρ 0 c).before (1 : Fin 2) t d = d := by
  unfold Dat.before
  rw [if_neg (by rw [show (cfg0.win (1 : Fin 2)).fetch t = false from rfl]; exact Bool.false_ne_true)]
  split
  · rfl
  · exact if_pos (flush0_1 _)

/-- The block's columns inside the array are all but the last 96. -/
theorem xsize_0 : ∀ t : Fin grid0.N, win0_0.xsize (grid0.coords t) 0 = 8 ∧ win0_0.xsize (grid0.coords t) 1 = 100000 := by
  decide +kernel

/-- What fills a block past the array's end is read nowhere inside it. -/
theorem fill_inside (t : Fin cfg0.N) (d d' : S8x100096.Idx → F .f32) (g : (win0_0.xblock (grid0.coords t)).Idx → F .f32)
    (y : S8x100096.Idx) (h : (y 1).val < 100000) : win0_0.fill (grid0.coords t) d g y = win0_0.fill (grid0.coords t) d' g y := by
  have hm : win0_0.moved (grid0.coords t) y = true := (win0_0.moved_iff _ _).mpr fun a => by
    match a with
    | ⟨0, _⟩ => exact lt_of_lt_of_eq (y 0).isLt (xsize_0 t).1.symm
    | ⟨1, _⟩ => exact lt_of_lt_of_eq h (xsize_0 t).2.symm
  unfold Window.fill
  rw [dif_pos hm, dif_pos hm]

/-! ## The body's obligation -/

/-- The body on the staging buffers of a point: the result's ends at the one-hot block of what the logits' holds. -/
theorem sound_body (c : Dev nD) (E : Set ℕ) (i : grid0.Coords) (M0 : Memref sig .tc .vmem S8x100096 .f32) (h0 : M0.IsWhole)
    (M1 : Memref sig .tc .vmem S8x100096 .f32) (h1 : M1.IsWhole) (X Y : S8x100096.Idx → F .f32) (K : PUnit → sProp 𝕄) :
    iprop((owns (c : Thread nD τ) M0 fullShare X ∗ owns (c : Thread nD τ) M1 fullShare Y)
        ∗ (iprop(owns (c : Thread nD τ) M0 fullShare X ∗ owns (c : Thread nD τ) M1 fullShare (hotBlk (F := F) (blkIdx i X))) -∗ K ⟨⟩))
      ⊢ wp frame (wpE (defs₀ (F := F)) Variants.none (c : Thread nD τ) none) E (cc0__sampler_kernel i M0 h0 M1 h1) K := by
  unfold owns
  iintro ⟨⟨⟨%f0, %hf0, H0⟩, ⟨%f1, %hf1, H1⟩⟩, Hk⟩
  iapply body_wp c i M0 h0 M1 h1 f0 f1 E K
  isplitl [H0]; · iexact H0
  isplitl [H1]; · iexact H1
  iintro ⟨H0, H1⟩
  iapply Hk
  isplitl [H0]
  · iexists f0; isplitr; · ipureintro; exact hf0
    iexact H0
  · iexists M1.view.writes (Elt F) f1 (pieces colV (idxV (scanEnd (ctrV i) (chunk M0 f0)).1 (scanEnd (ctrV i) (chunk M0 f0)).2) 391 le_rfl)
    isplitr
    · ipureintro; rw [read_pieces, chunk_eq, hf0]; rfl
    iexact H1

/-- The library's body obligation, from the body's run at the point's staging buffers. -/
theorem body_obligation (c : Dev nD) : BodyObligationLoose (dats m ρ 0 c) (defs₀ (F := F)) Variants.none () Set.univ := fun t => by
  rw [bigSep_W0, bigSep_W0]
  simp only
  rw [show (dats m ρ 0 c).Φ t.succ = (dats m ρ 0 c).Φ t.castSucc from rfl,
    show (dats m ρ 0 c).owesAt () t.succ = (dats m ρ 0 c).owesAt () t.castSucc from rfl]
  iintro ⟨HΦ, Ho, ⟨%d0, H0⟩, ⟨%d1, H1⟩⟩
  rw [before_0 m ρ c t d0, before_1 m ρ c t d1]
  iapply (sound_body (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_0.fill (grid0.coords t) d0 ((win0_0.blk t).view.read (Elt F) (xin m c))) d1 _)
  isplitl [H0 H1]
  · isplitl [H0]
    · iexact H0
    · iexact H1
  iintro ⟨H0, H1⟩
  isplitl [HΦ]; · iexact HΦ
  isplitl [Ho]; · iexact Ho
  have hx : win0_0.cut (grid0.coords t) (xb (xin m c) t) = (win0_0.blk t).view.read (Elt F) (xin m c) := win0_0.cut_fill _ _ _
  have hi : blkIdx (grid0.coords t) (win0_0.fill (grid0.coords t) d0 ((win0_0.blk t).view.read (Elt F) (xin m c)))
      = blkIdx (grid0.coords t) (xb (xin m c) t) := blkIdx_congr _ _ _ fun y hy => fill_inside t _ _ _ y hy
  rw [hi]
  isplitl [H0]
  · iexists d0
    change _ ⊢ owns (c : Thread nD τ) (stage0_0 (cfg0.slots t 0)) fullShare (win0_0.fill (grid0.coords t) d0 (win0_0.cut (grid0.coords t) (xb (xin m c) t)))
    rw [hx]; try iexact H0
  · iexists hotBlk (blkIdx (grid0.coords t) (xb (xin m c) t))
    change _ ⊢ owns (c : Thread nD τ) (stage0_1 (cfg0.slots t 1)) fullShare (win0_1.fill (α := Elt F .f32) (grid0.coords t) (hotBlk (F := F) (blkIdx (grid0.coords t) (xb (xin m c) t)))
      (win0_1.cut (α := Elt F .f32) (grid0.coords t) (hotBlk (F := F) (blkIdx (grid0.coords t) (xb (xin m c) t)))))
    rw [win0_1.fill_cut]; try iexact H1

/-! ## The launch -/

/-- An array's contents after the run, as the library computes them. -/
def finalA (c : Dev nD) (w : Fin cfg0.W) : Buf (Elt F) ((cfg0.win w).arr.view.loc (c : Thread nD τ)) :=
  (dats m ρ 0 c).arrAt w cfg0.N

set_option backward.isDefEq.respectTransparency.types false in
/-- Every fair execution of the launch ends, each array at its computed contents and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_noSem_kit_quiescent cfgs (dats m ρ) () (0 : Fin 1) launch0 emb₁ defs₀ Variants.none m ρ main
    (hbody := body_obligation m ρ)
    (hshare := fun c => (dats m ρ 0 c).share_full fun _ => rfl) (howed := fun _ _ => rfl)
    (u₀ := initOf (Pipeline.cells cfgs launch0.cellOf_inj) (Pipeline.launchToks cfgs launch0.cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h hz => ⟨fun c w => (h c).1 w, hz⟩)

/-- The row block a row lies in. -/
def tOf (r : ℕ) (h : r < 128) : Fin cfg0.N := ⟨r / 8, by show r / 8 < grid0.N; rw [N_0]; omega⟩

/-- An index of a block by its coordinates. -/
def bix (r l : ℕ) (hr : r < 8) (hl : l < 100096) : S8x100096.Idx := fun a => match a with
  | ⟨0, _⟩ => ⟨r, hr⟩
  | ⟨1, _⟩ => ⟨l, hl⟩

/-- The result of the logits `x`: each row's one-hot, by its row block. -/
def kernVal (x : S128x100000.Idx → F .f32) (y : S128x100000.Idx) : F .f32 :=
  hotBlk (blkIdx (grid0.coords (tOf (y 0).val (y 0).isLt)) (xb x (tOf (y 0).val (y 0).isLt)))
    (bix ((y 0).val % 8) (y 1).val (Nat.mod_lt _ (by decide)) (Nat.lt_trans (show (y 1).val < 100000 from (y 1).isLt) (by decide)))

/-- The block index of a point is the point, in the rows. -/
theorem index_1 : ∀ t : Fin grid0.N, win0_1.index t 0 = t.val ∧ win0_1.index t 1 = 0 ∧ win0_1.xsize (grid0.coords t) 0 = 8 := by
  decide +kernel

/-- The result array after the run. -/
theorem finalA_out (c : Dev nD) : finalA m ρ c (1 : Fin 2) = kernVal (xin m c) := by
  unfold finalA
  refine (dats m ρ 0 c).arrAt_eq_of_covers 1 _ (by decide +kernel) fun t hf y => ?_
  obtain ⟨i0, i1, i2⟩ := index_1 t
  have e0 : ((((cfg0.win 1).blk t).view.emb y 0 : Fin _) : ℕ) = t.val * 8 + (y 0).val := by
    show win0_1.index t 0 * 8 + 1 * (y 0).val = _; rw [i0]; omega
  have e1 : ((((cfg0.win 1).blk t).view.emb y 1 : Fin _) : ℕ) = (y 1).val := by
    show win0_1.index t 1 * 100096 + 1 * (y 1).val = _; rw [i1]; omega
  have hy : (y 0).val < 8 := lt_of_lt_of_eq (y 0).isLt i2
  have ht : tOf _ (((cfg0.win 1).blk t).view.emb y 0).isLt = t := Fin.ext (by show (((cfg0.win 1).blk t).view.emb y 0 : ℕ) / 8 = _; rw [e0]; omega)
  change hotBlk (blkIdx (grid0.coords t) (xb (xin m c) t)) ((cfg0.win 1).xinj (cfg0.grid.coords t) y) = _
  unfold kernVal
  rw [ht]
  refine congrArg _ ?_
  funext a
  match a with
  | ⟨0, _⟩ => exact Fin.ext (by show (y 0).val = (((cfg0.win 1).blk t).view.emb y 0 : ℕ) % 8; rw [e0]; omega)
  | ⟨1, _⟩ => exact Fin.ext e1.symm

/-- The kernel's run in closed form: the result is `kernVal` of the logits, the logits unchanged, the counters zero. -/
theorem kernel_run : θ_run defs (onTc (τ := τ) (main (F := F))) ⟨m, fun _ => 0, ρ⟩ (fun r =>
    (∀ c : Dev nD, r.2.mem ((c.tc : Thread nD τ).loc main_v0) = kernVal (m ((c.tc : Thread nD τ).loc main_arg0))
      ∧ r.2.mem ((c.tc : Thread nD τ).loc main_arg0) = m ((c.tc : Thread nD τ).loc main_arg0)) ∧ r.2.sem = fun _ => 0) :=
  (θ_run defs _ _).mono (fun _ h => ⟨fun c => ⟨(h.1 c 1).trans (finalA_out m ρ c),
    (h.1 c 0).trans ((dats (F := F) m ρ 0 c).arrAt_in (0 : Fin 2) rfl _)⟩, h.2⟩) (run_main m ρ)

end Cert.Sampler

end
-- ==== Proof.Frames.lean ====
/- The frames of the kernel, as printed and at the reals. -/
module

public import proofs.«01_k».proof.Defs
public import proofs.«01_k».proof.Proof.KernelRun
public import proofs.«01_k».proof.Proof.Gen.Kernel

@[expose] public section

noncomputable section

namespace Cert.Sampler

open Idealize.ShloMosaic Idealize.ShloMosaic.TcCoe Idealize.SL.Sem

/-- The frame's statement for the idealized program's text read at any floats. -/
def FrameAt (F : FTy → Type) [FloatOps F] : Prop :=
  ∀ (m : (ℓ : Loc KernelIdeal.nD KernelIdeal.τ KernelIdeal.sig) → Buf (Elt F) ℓ) (g : Dev KernelIdeal.nD → PrngReg), True →
    θ_run (KernelIdeal.defs (F := F)) (onTc (τ := KernelIdeal.τ) (KernelIdeal.main (F := F))) ⟨m, fun _ => 0, g⟩ (fun r =>
      (∀ c : Dev KernelIdeal.nD, r.2.mem ((c.tc : Thread KernelIdeal.nD KernelIdeal.τ).loc KernelIdeal.main_arg0)
        = m ((c.tc : Thread KernelIdeal.nD KernelIdeal.τ).loc KernelIdeal.main_arg0)) ∧ r.2.sem = fun _ => 0)

/-- It holds at any floats. -/
theorem frameAt (F : FTy → Type) [FloatOps F] : FrameAt F := fun m g _ =>
  (θ_run _ _ _).mono (fun _ h => ⟨fun c => (h.1 c).2, h.2⟩) (kernel_run m g)

set_option maxRecDepth 100000 in
/-- The kernel's frame is that statement at the floats of the chip: the two programs are one text. -/
theorem frame_eq : @Cert.quiescent_Kernel Cert.Kernel.Gen.facts = FrameAt Bits := by
  chain_rfl

/-- The kernel's frame. -/
theorem frame_kernel : @Cert.quiescent_Kernel Cert.Kernel.Gen.facts := by
  rw [frame_eq]; exact frameAt Bits

/-- The idealized kernel's frame. -/
theorem frame_ideal : @Cert.quiescent_KernelIdeal Cert.KernelIdeal.Gen.facts := frameAt Ideal

end Cert.Sampler

end
-- ==== Proof.RefRun.lean ====
/- The reference's run: @main is one straight line of host operations, read off the program itself. -/
module

public import proofs.«01_k».proof.Proof.Gen.ReferenceIdeal
public import Idealize.ShloMosaic.Lib.Pipeline.Regions

@[expose] public section

noncomputable section

namespace Cert.Sampler

open Idealize.ShloMosaic Idealize.ShloMosaic.StableHlo Idealize.SL.Sem
open Cert.ReferenceIdeal Cert.ReferenceIdeal.Facts₀ Cert.ReferenceIdeal.Facts

variable {F : FTy → Type} [FloatOps F] [Facts]

abbrev RVal (F : FTy → Type) := Valuation τ sig (Elt F)

/-- The host operations a straight-line program performs, in order (`V` only answers the contents a program may ask for). -/
def opsOf (V : RVal F) : Prog (TpuEff nD τ sig (Elt F) (Pipeline.Sig Λ₀ (Fin 0) fun p => (pcfgs (F := F) p).Adm) .tc) PUnit →
    List (HloOp τ sig (Elt F))
  | .ret _ => []
  | .op (.hloBegin _ op) k => op :: opsOf V (k ⟨⟩)
  | .op (.hloEnd _ _) k => opsOf V (k fun b => V b.1)
  | .op _ _ => []

/-- The reference's operations. -/
def refOps (V : RVal F) (d : Dev nD) : List (HloOp τ sig (Elt F)) := opsOf V (main (F := F) d)

theorem main_seq (V : RVal F) (d : Dev nD) : main (F := F) d = seq (refOps V d) := by chain_rfl

theorem ops_fresh (V : RVal F) (d : Dev nD) : (refOps V d).map HloOp.fresh = (refOps V d).map fun _ => (∅ : Finset (DevRef τ sig)) := by
  chain_rfl

/-! ## The value the operations leave in the result's buffer -/

/-- A rank-0 word at every position of the array. -/
def hbc (x : IVec S_ 32) : IVec S128x100000 32 := broadcastInDim S128x100000 ![] bcast_S_S128x100000 x

/-- A rank-0 64-bit word at every position of the array. -/
def hbc64 (x : IVec S_ 64) : IVec S128x100000 64 := broadcastInDim S128x100000 ![] bcast_S_S128x100000 x

/-- A rank-0 float at every position of the array. -/
def hbcf (x : FVec F S_ .f32) : FVec F S128x100000 .f32 := broadcastInDim S128x100000 ![] bcast_S_S128x100000 x

/-- One round of the generator on the host: the words' sum, and the second word rotated and mixed with it. -/
def hround (l r : BitVec 32) (p : IVec S128x100000 32 × IVec S128x100000 32) : IVec S128x100000 32 × IVec S128x100000 32 :=
  (addi p.1 p.2, xori (addi p.1 p.2) (ori (Host.shli p.2 (hbc (constantI S_ 32 l))) (Host.shrui p.2 (hbc (constantI S_ 32 r)))))

/-- A key injection on the host: a key word added to each word, and the group's number to the second. -/
def hinj (a b : IVec S_ 32) (n : BitVec 32) (p : IVec S128x100000 32 × IVec S128x100000 32) :
    IVec S128x100000 32 × IVec S128x100000 32 :=
  (addi p.1 (hbc a), addi (addi p.2 (hbc b)) (hbc (constantI S_ 32 n)))

/-- Four rounds with the first rotation set. -/
def hgrpA (p : IVec S128x100000 32 × IVec S128x100000 32) : IVec S128x100000 32 × IVec S128x100000 32 :=
  hround 6#32 26#32 (hround 26#32 6#32 (hround 15#32 17#32 (hround 13#32 19#32 p)))

/-- Four rounds with the second rotation set. -/
def hgrpB (p : IVec S128x100000 32 × IVec S128x100000 32) : IVec S128x100000 32 × IVec S128x100000 32 :=
  hround 24#32 8#32 (hround 16#32 16#32 (hround 29#32 3#32 (hround 17#32 15#32 p)))

/-- The third key word. -/
def hkey2 (k0 k1 : IVec S_ 32) : IVec S_ 32 := xori (xori k0 k1) (constantI S_ 32 466688986#32)

/-- The generator on the host: twenty rounds under the key `(k0, k1)` from the counter `(hi, lo)`. -/
def hthree (k0 k1 : IVec S_ 32) (hi lo : IVec S128x100000 32) : IVec S128x100000 32 × IVec S128x100000 32 :=
  hinj (hkey2 k0 k1) k0 5#32 (hgrpA (hinj k1 (hkey2 k0 k1) 4#32 (hgrpB (hinj k0 k1 3#32 (hgrpA (hinj (hkey2 k0 k1) k0 2#32
    (hgrpB (hinj k1 (hkey2 k0 k1) 1#32 (hgrpA (addi hi (hbc k0), addi lo (hbc k1)))))))))))

/-- The key's two words, one array of two. -/
def hkeys : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The key's first word. -/
def hk0 : IVec S_ 32 := shapeCast S_ (extractStridedSlice S1 ![0] hkeys slices_S2_S1_0) shapeCasts_S1_S_

/-- The key's second word. -/
def hk1 : IVec S_ 32 := shapeCast S_ (extractStridedSlice S1 ![1] hkeys slices_S2_S1_1) shapeCasts_S1_S_

/-- The positions, 64 bits wide. -/
def hpos : IVec S128x100000 64 :=
  addi (muli (hbc64 (constantI S_ 64 100000#64)) (iotaInDim S128x100000 64 0)) (muli (hbc64 (constantI S_ 64 1#64)) (iotaInDim S128x100000 64 1))

/-- The counter's high words. -/
def hhi : IVec S128x100000 32 := trunci 32 (Host.shrui hpos (hbc64 (constantI S_ 64 32#64))) natLt_32_64

/-- The counter's low words. -/
def hlo : IVec S128x100000 32 := trunci 32 hpos natLt_32_64

/-- The random bits. -/
def hbits : IVec S128x100000 32 := xori (hthree hk0 hk1 hhi hlo).1 (hthree hk0 hk1 hhi hlo).2

/-- The scores under given random bits: the Gumbel noise plus the logits. -/
def hscoreOf (bits : IVec S128x100000 32) (x : FVec F S128x100000 .f32) : FVec F S128x100000 .f32 :=
  addf (Host.negf (Host.log (Host.negf (Host.log (maximumf (hbcf (constant S_ .f32 0x00800000#32))
    (subf (bitcastToFloat .f32 (ori (Host.shrui bits (hbc (constantI S_ 32 9#32))) (hbc (constantI S_ 32 1065353216#32))))
      (hbcf (constant S_ .f32 0x3F800000#32))))))))
    (Host.log (addf x (hbcf (constant S_ .f32 0x2EDBE6FF#32))))

/-- The scores. -/
def hscore (x : FVec F S128x100000 .f32) : FVec F S128x100000 .f32 := hscoreOf hbits x

/-- Each row's first position of the largest score. -/
def hargmax (t : FVec F S128x100000 .f32) : IVec S128 32 := fun j =>
  (Host.argReduce reducer_argmax_f32_i32 t (iotaInDim S128x100000 32 1) (constant S_ .f32 0xFF800000#32) (constantI S_ 32 0#32)
    reducesTo_S128x100000_S128_d1 h_S_ j).2

/-- A rank-0 word at each of 128 positions. -/
def hbc128 (x : IVec S_ 32) : IVec S128 32 := broadcastInDim S128 ![] bcast_S_S128 x

/-- A position counted from the end where negative. -/
def hwrap (n : BitVec 32) (v : IVec S128 32) : IVec S128 32 :=
  select (cmpi .slt v (hbc128 (constantI S_ 32 0#32))) (addi v (hbc128 (constantI S_ 32 n))) v

/-- The positions the ones go to: each row with its given column. -/
def startsOf (v : IVec S128 32) : IVec S128x2 32 :=
  concatenate S128x2 1 [⟨S128x1, broadcastInDim S128x1 ![0] bcast_S128_S128x1_0 (hwrap 128#32 (iotaInDim S128 32 0))⟩,
    ⟨S128x1, broadcastInDim S128x1 ![0] bcast_S128_S128x1_0 (hwrap 100000#32 v)⟩] concatenates_S128x1_S128x1_S128x2_d1

/-- The one-hot rows of given scores. -/
def outOf (t : FVec F S128x100000 .f32) : FVec F S128x100000 .f32 :=
  Host.scatter scatter_S128x100000_S128x2_S128_n_01_01_1 (fun _ b => b) (hbcf (constant S_ .f32 0x00000000#32)) (startsOf (hargmax t))
    (broadcastInDim S128 ![] bcast_S_S128 (constant S_ .f32 0x3F800000#32))

/-- The reference's result. -/
def refVal (x : FVec F S128x100000 .f32) : FVec F S128x100000 .f32 := outOf (hscore x)

/-! ## The fold, stage by stage -/

/-- A buffer's contents in a valuation. -/
abbrev at_ (V : RVal F) (r : Ref sig .tc) := V (Proc.devRef .tc r)

/-- The `n` operations from the `a`-th on. -/
def seg (V₀ : RVal F) (d : Dev nD) (a n : ℕ) : List (HloOp τ sig (Elt F)) := ((refOps V₀ d).drop a).take n

/-- The fold of two consecutive stretches of a line. -/
theorem after_two (l₁ l₂ : List (HloOp τ sig (Elt F))) (V : RVal F) : after (l₁ ++ l₂) V = after l₂ (after l₁ V) := by
  induction l₁ generalizing V with
  | nil => rfl
  | cons op l ih => exact ih _

/-- The fold from the `a`-th operation on is the next `n`, then the rest. -/
theorem after_seg (V₀ V : RVal F) (d : Dev nD) (a n : ℕ) :
    after ((refOps V₀ d).drop a) V = after ((refOps V₀ d).drop (a + n)) (after (seg V₀ d a n) V) := by
  rw [← after_two, ← List.drop_drop, seg, List.take_append_drop]

attribute [local irreducible] refOps seg after

/-- What the generator's stages carry: the key words, the third key word, the argument and the two words. -/
structure Carries (V : RVal F) (x : FVec F S128x100000 .f32) (r0 r1 : IVec S128x100000 32) (p : IVec S128x100000 32 × IVec S128x100000 32) : Prop where
  k0 : (at_ V main_v8 : IVec S_ 32) = hk0
  k1 : (at_ V main_v10 : IVec S_ 32) = hk1
  k2 : (at_ V main_call0_v1 : IVec S_ 32) = hkey2 hk0 hk1
  arg : (at_ V main_arg0 : FVec F S128x100000 .f32) = x
  w0 : r0 = p.1
  w1 : r1 = p.2

theorem stage_pre (V₀ V : RVal F) (d : Dev nD) :
    Carries (after (seg V₀ d 0 35) V) (at_ V main_arg0) (at_ (after (seg V₀ d 0 35) V) main_call0_v3) (at_ (after (seg V₀ d 0 35) V) main_call0_v5)
      (addi hhi (hbc hk0), addi hlo (hbc hk1)) where
  k0 := by chain_rfl
  k1 := by chain_rfl
  k2 := by chain_rfl
  arg := by chain_rfl
  w0 := by chain_rfl
  w1 := by chain_rfl

/-- A stage that keeps the key words and the argument and maps the two words carries on. -/
theorem Carries.step {V V' : RVal F} {x : FVec F S128x100000 .f32} {r0 r1 r0' r1' : IVec S128x100000 32}
    {p : IVec S128x100000 32 × IVec S128x100000 32} (h : Carries V x r0 r1 p)
    (f : IVec S_ 32 → IVec S_ 32 → IVec S_ 32 → IVec S128x100000 32 × IVec S128x100000 32 → IVec S128x100000 32 × IVec S128x100000 32)
    (h0 : at_ V' main_v8 = at_ V main_v8) (h1 : at_ V' main_v10 = at_ V main_v10) (h2 : at_ V' main_call0_v1 = at_ V main_call0_v1)
    (hx : at_ V' main_arg0 = at_ V main_arg0)
    (hw : (r0', r1') = f (at_ V main_v8) (at_ V main_v10) (at_ V main_call0_v1) (r0, r1)) :
    Carries V' x r0' r1' (f hk0 hk1 (hkey2 hk0 hk1) p) := by
  obtain ⟨e0, e1, e2, ex, ew0, ew1⟩ := h
  rw [e0, e1, e2, ew0, ew1] at hw
  exact ⟨h0.trans e0, h1.trans e1, h2.trans e2, hx.trans ex, congrArg Prod.fst hw, congrArg Prod.snd hw⟩

theorem stage_one {V₀ V : RVal F} {d : Dev nD} {x : FVec F S128x100000 .f32} {p : IVec S128x100000 32 × IVec S128x100000 32}
    (h : Carries V x (at_ V main_call0_v3) (at_ V main_call0_v5) p) :
    Carries (after (seg V₀ d 35 43) V) x (at_ (after (seg V₀ d 35 43) V) main_call0_v35) (at_ (after (seg V₀ d 35 43) V) main_call0_v39)
      ((fun _ k1 k2 p => hinj k1 k2 1#32 (hgrpA p)) hk0 hk1 (hkey2 hk0 hk1) p) :=
  h.step (fun _ k1 k2 p => hinj k1 k2 1#32 (hgrpA p)) (by chain_rfl) (by chain_rfl) (by chain_rfl) (by chain_rfl) (by chain_rfl)

theorem stage_two {V₀ V : RVal F} {d : Dev nD} {x : FVec F S128x100000 .f32} {p : IVec S128x100000 32 × IVec S128x100000 32}
    (h : Carries V x (at_ V main_call0_v35) (at_ V main_call0_v39) p) :
    Carries (after (seg V₀ d 78 43) V) x (at_ (after (seg V₀ d 78 43) V) main_call0_v69) (at_ (after (seg V₀ d 78 43) V) main_call0_v73)
      ((fun k0 _ k2 p => hinj k2 k0 2#32 (hgrpB p)) hk0 hk1 (hkey2 hk0 hk1) p) :=
  h.step (fun k0 _ k2 p => hinj k2 k0 2#32 (hgrpB p)) (by chain_rfl) (by chain_rfl) (by chain_rfl) (by chain_rfl) (by chain_rfl)

theorem stage_three {V₀ V : RVal F} {d : Dev nD} {x : FVec F S128x100000 .f32} {p : IVec S128x100000 32 × IVec S128x100000 32}
    (h : Carries V x (at_ V main_call0_v69) (at_ V main_call0_v73) p) :
    Carries (after (seg V₀ d 121 43) V) x (at_ (after (seg V₀ d 121 43) V) main_call0_v103) (at_ (after (seg V₀ d 121 43) V) main_call0_v107)
      ((fun k0 k1 _ p => hinj k0 k1 3#32 (hgrpA p)) hk0 hk1 (hkey2 hk0 hk1) p) :=
  h.step (fun k0 k1 _ p => hinj k0 k1 3#32 (hgrpA p)) (by chain_rfl) (by chain_rfl) (by chain_rfl) (by chain_rfl) (by chain_rfl)

theorem stage_four {V₀ V : RVal F} {d : Dev nD} {x : FVec F S128x100000 .f32} {p : IVec S128x100000 32 × IVec S128x100000 32}
    (h : Carries V x (at_ V main_call0_v103) (at_ V main_call0_v107) p) :
    Carries (after (seg V₀ d 164 43) V) x (at_ (after (seg V₀ d 164 43) V) main_call0_v137) (at_ (after (seg V₀ d 164 43) V) main_call0_v141)
      ((fun _ k1 k2 p => hinj k1 k2 4#32 (hgrpB p)) hk0 hk1 (hkey2 hk0 hk1) p) :=
  h.step (fun _ k1 k2 p => hinj k1 k2 4#32 (hgrpB p)) (by chain_rfl) (by chain_rfl) (by chain_rfl) (by chain_rfl) (by chain_rfl)

theorem stage_five {V₀ V : RVal F} {d : Dev nD} {x : FVec F S128x100000 .f32} {p : IVec S128x100000 32 × IVec S128x100000 32}
    (h : Carries V x (at_ V main_call0_v137) (at_ V main_call0_v141) p) :
    Carries (after (seg V₀ d 207 43) V) x (at_ (after (seg V₀ d 207 43) V) main_v22_0) (at_ (after (seg V₀ d 207 43) V) main_v22_1)
      ((fun k0 _ k2 p => hinj k2 k0 5#32 (hgrpA p)) hk0 hk1 (hkey2 hk0 hk1) p) :=
  h.step (fun k0 _ k2 p => hinj k2 k0 5#32 (hgrpA p)) (by chain_rfl) (by chain_rfl) (by chain_rfl) (by chain_rfl) (by chain_rfl)

/-- The fold over the generator leaves its two words. -/
theorem stage_bits (V₀ V : RVal F) (d : Dev nD) : ∃ V' : RVal F, after (refOps V₀ d) V = after ((refOps V₀ d).drop 250) V'
    ∧ (at_ V' main_arg0 : FVec F S128x100000 .f32) = at_ V main_arg0
    ∧ ((at_ V' main_v22_0, at_ V' main_v22_1) : IVec S128x100000 32 × IVec S128x100000 32) = hthree hk0 hk1 hhi hlo := by
  have e := (after_seg V₀ V d 0 35).trans <| (after_seg V₀ _ d 35 43).trans <| (after_seg V₀ _ d 78 43).trans <|
    (after_seg V₀ _ d 121 43).trans <| (after_seg V₀ _ d 164 43).trans (after_seg V₀ _ d 207 43)
  have c := stage_five (V₀ := V₀) (d := d) (stage_four (V₀ := V₀) (d := d) (stage_three (V₀ := V₀) (d := d)
    (stage_two (V₀ := V₀) (d := d) (stage_one (V₀ := V₀) (d := d) (stage_pre V₀ V d)))))
  exact ⟨_, e, c.arg, Prod.ext c.w0 c.w1⟩

/-- The scores' operations. -/
theorem stage_score (V₀ V : RVal F) (d : Dev nD) (hb : ((at_ V main_v22_0, at_ V main_v22_1) : IVec S128x100000 32 × IVec S128x100000 32) = hthree hk0 hk1 hhi hlo) :
    (at_ (after (seg V₀ d 250 23) V) main_v40 : FVec F S128x100000 .f32) = hscore (at_ V main_arg0) := by
  have h : (at_ (after (seg V₀ d 250 23) V) main_v40 : FVec F S128x100000 .f32) = hscoreOf (xori (at_ V main_v22_0 : IVec S128x100000 32) (at_ V main_v22_1)) (at_ V main_arg0) := by
    chain_rfl
  rw [h, hscore, hbits, ← hb]

theorem stage_arg (V₀ V : RVal F) (d : Dev nD) : (at_ (after (seg V₀ d 250 23) V) main_arg0) = at_ V main_arg0 := by chain_rfl

/-- The argmax's operations. -/
theorem stage_argmax (V₀ V : RVal F) (d : Dev nD) : (at_ (after (seg V₀ d 273 5) V) main_v41 : IVec S128 32) = hargmax (at_ V main_v40) := by
  chain_rfl

theorem stage_argmax_arg (V₀ V : RVal F) (d : Dev nD) : at_ (after (seg V₀ d 273 5) V) main_arg0 = at_ V main_arg0 := by chain_rfl

/-- The zeros and the positions. -/
theorem stage_starts (V₀ V : RVal F) (d : Dev nD) :
    (at_ (after (seg V₀ d 278 20) V) main_v56 : IVec S128x2 32) = startsOf (at_ V main_v41) := by
  chain_rfl

theorem stage_zeros (V₀ V : RVal F) (d : Dev nD) :
    (at_ (after (seg V₀ d 278 20) V) main_v42 : FVec F S128x100000 .f32) = hbcf (constant S_ .f32 0x00000000#32) := by
  chain_rfl

theorem stage_starts_arg (V₀ V : RVal F) (d : Dev nD) : at_ (after (seg V₀ d 278 20) V) main_arg0 = at_ V main_arg0 := by chain_rfl

/-- The scatter. -/
theorem stage_scatter (V₀ V : RVal F) (d : Dev nD) : (at_ (after (seg V₀ d 298 3) V) main_v58 : FVec F S128x100000 .f32) =
    Host.scatter scatter_S128x100000_S128x2_S128_n_01_01_1 (fun _ b => b) (at_ V main_v42) (at_ V main_v56)
      (broadcastInDim S128 ![] bcast_S_S128 (constant S_ .f32 0x3F800000#32)) := by
  chain_rfl

theorem stage_scatter_arg (V₀ V : RVal F) (d : Dev nD) : at_ (after (seg V₀ d 298 3) V) main_arg0 = at_ V main_arg0 := by chain_rfl

/-- No operation is left. -/
theorem ops_end (V₀ : RVal F) (d : Dev nD) : (refOps V₀ d).drop 301 = [] := by chain_rfl

/-- The whole fold at the result's buffer and at the argument's. -/
theorem ref_value (V₀ V : RVal F) (d : Dev nD) :
    (at_ (after (refOps V₀ d) V) main_v58 : FVec F S128x100000 .f32) = refVal (at_ V main_arg0)
      ∧ at_ (after (refOps V₀ d) V) main_arg0 = at_ V main_arg0 := by
  obtain ⟨V', e, ha, hb⟩ := stage_bits V₀ V d
  rw [e, (after_seg V₀ V' d 250 23).trans <| (after_seg V₀ _ d 273 5).trans <| (after_seg V₀ _ d 278 20).trans (after_seg V₀ _ d 298 3), ops_end, after_nil]
  refine ⟨?_, ?_⟩
  · rw [stage_scatter, stage_starts, stage_zeros, stage_argmax, stage_score V₀ V' d hb, ha]; rfl
  · exact (stage_scatter_arg V₀ _ d).trans ((stage_starts_arg V₀ _ d).trans ((stage_argmax_arg V₀ _ d).trans ((stage_arg V₀ V' d).trans ha)))

end Cert.Sampler

end
-- ==== Proof.RefFrame.lean ====
/- The reference's run to its closed form, and its frame. -/
module

public import proofs.«01_k».proof.Defs
public import proofs.«01_k».proof.Proof.RefRun

@[expose] public section

noncomputable section

namespace Cert.Sampler

open Idealize.ShloMosaic Idealize.ShloMosaic.TcCoe Idealize.ShloMosaic.StableHlo Idealize.SL.Sem
open Cert.ReferenceIdeal

variable {F : FTy → Type} [FloatOps F] [Facts]

/-- Every buffer of the reference's device is a TensorCore's. -/
theorem all_tc (b : DevRef τ sig) : b ∈ tcRefs τ sig := by
  unfold tcRefs
  rw [Finset.mem_map]
  rcases b with ⟨_ | _ | _ | ⟨κ, cs⟩, i, u⟩
  · have hs : sig.hbmOfSc i = false := rfl
    exact ⟨⟨.hbm, i, by simp [RefSig.names, hs]⟩, Finset.mem_univ _, congrArg (DevRef.mk .hbm i) (Topo.HbmHolder.eq_of_eq_false (τ := τ) hs _ _)⟩
  · exact ⟨⟨.host, i, rfl⟩, Finset.mem_univ _, rfl⟩
  · exact (show Fin 0 from i).elim0
  · cases κ <;> cases cs <;> exact (show Fin 0 from i).elim0

/-- The reference's run: its result is `refVal` of the logits, the logits unchanged, every counter zero. -/
theorem ref_run (m : (ℓ : Loc nD τ sig) → Buf (Elt F) ℓ) (g : Dev nD → PrngReg) :
    θ_run (defs (F := F)) (onTc (τ := τ) (main (F := F))) ⟨m, fun _ => 0, g⟩ (fun r => ∀ d : Dev nD,
      r.2.mem ((d.tc : Thread nD τ).loc main_v58) = refVal (F := F) (m ((d.tc : Thread nD τ).loc main_arg0))
        ∧ r.2.mem ((d.tc : Thread nD τ).loc main_arg0) = m ((d.tc : Thread nD τ).loc main_arg0)) := by
  refine (θ_run _ _ _).mono (fun r h d => ?_) (run_seq (by decide) (by decide) defs (main (F := F)) (fun d => refOps (launchContents m d) d)
    (fun d => main_seq _ d) (fun d => List.forall_iff_forall_mem.mpr fun _ _ b _ => all_tc b) m g
    (fun d => List.forall_iff_forall_mem.mp (forall_fresh_of_map (ops_fresh _ d))))
  obtain ⟨hv, ha⟩ := ref_value (launchContents m d) (launchContents m d) d
  exact ⟨(h d main_v58).trans hv, (h d main_arg0).trans ha⟩

end Cert.Sampler

end
-- ==== Proof.Words.lean ====
/- The generator's words on the two sides, lane by lane: both are one scalar function of the position. -/
module

public import proofs.«01_k».proof.Proof.KernelRun
public import proofs.«01_k».proof.Proof.RefRun

@[expose] public section

noncomputable section

namespace Cert.Sampler

open Idealize.ShloMosaic

/-- A pair of words at one lane. -/
def lane {s : Shape} (p : IVec s 32 × IVec s 32) (j : s.Idx) : BitVec 32 × BitVec 32 := (p.1 j, p.2 j)

/-- One round on two words. -/
def sround (l r : BitVec 32) (p : BitVec 32 × BitVec 32) : BitVec 32 × BitVec 32 :=
  (p.1 + p.2, (p.1 + p.2) ^^^ ((p.2 <<< l) ||| (p.2 >>> r)))

/-- A key injection on two words. -/
def sinj (a b : BitVec 32) (p : BitVec 32 × BitVec 32) : BitVec 32 × BitVec 32 := (p.1 + a, p.2 + b)

/-- Four rounds on two words, the first set of rotations. -/
def sgrpA (p : BitVec 32 × BitVec 32) : BitVec 32 × BitVec 32 :=
  sround 6#32 26#32 (sround 26#32 6#32 (sround 15#32 17#32 (sround 13#32 19#32 p)))

/-- Four rounds on two words, the second set of rotations. -/
def sgrpB (p : BitVec 32 × BitVec 32) : BitVec 32 × BitVec 32 :=
  sround 24#32 8#32 (sround 16#32 16#32 (sround 29#32 3#32 (sround 17#32 15#32 p)))

/-- The twenty rounds on two words. -/
def sthree (p : BitVec 32 × BitVec 32) : BitVec 32 × BitVec 32 :=
  sinj 466689008#32 5#32 (sgrpA (sinj 42#32 466689012#32 (sgrpB (sinj 0#32 45#32 (sgrpA (sinj 466689008#32 2#32
    (sgrpB (sinj 42#32 466689009#32 (sgrpA p)))))))))

/-- The random word of a counter word. -/
def sword (c : BitVec 32) : BitVec 32 := (sthree (0#32, c)).1 ^^^ (sthree (0#32, c)).2

/-! ## The kernel's side -/

theorem vrotl_at {s : Shape} (x : IVec s 32) (l r : BitVec 32) (hl : l.toNat < 32) (hr : r.toNat < 32) (j : s.Idx) :
    vrotl x l r j = ((x j <<< l) ||| (x j >>> r)) := by
  show IntOp.ori (IntOp.shli _ (x j) l) (IntOp.shrui _ (x j) r) = _
  unfold IntOp.shli IntOp.shrui
  rw [if_pos hl, if_pos hr]
  rfl

theorem lane_vround {s : Shape} (l r : BitVec 32) (hl : l.toNat < 32) (hr : r.toNat < 32) (p : IVec s 32 × IVec s 32) (j : s.Idx) :
    lane (vround l r p) j = sround l r (lane p j) := by
  show (_, IntOp.xori _ (vrotl p.2 l r j)) = _
  rw [vrotl_at _ _ _ hl hr]
  rfl

theorem lane_vinj {s : Shape} (a b : BitVec 32) (p : IVec s 32 × IVec s 32) (j : s.Idx) :
    lane (vinj a b p) j = sinj a b (lane p j) := rfl

theorem lane_vgrpA {s : Shape} (p : IVec s 32 × IVec s 32) (j : s.Idx) : lane (vgrpA p) j = sgrpA (lane p j) := by
  unfold vgrpA sgrpA
  rw [lane_vround _ _ (by decide) (by decide), lane_vround _ _ (by decide) (by decide), lane_vround _ _ (by decide) (by decide),
    lane_vround _ _ (by decide) (by decide)]

theorem lane_vgrpB {s : Shape} (p : IVec s 32 × IVec s 32) (j : s.Idx) : lane (vgrpB p) j = sgrpB (lane p j) := by
  unfold vgrpB sgrpB
  rw [lane_vround _ _ (by decide) (by decide), lane_vround _ _ (by decide) (by decide), lane_vround _ _ (by decide) (by decide),
    lane_vround _ _ (by decide) (by decide)]

/-- The kernel's shortened first rounds are the first four rounds from a zero word. -/
theorem lane_vfirst {s : Shape} (c : IVec s 32) (j : s.Idx) : lane (vfirst c) j = sgrpA (0#32, c j) := by
  unfold vfirst sgrpA
  rw [lane_vround _ _ (by decide) (by decide), lane_vround _ _ (by decide) (by decide), lane_vround _ _ (by decide) (by decide)]
  have h : lane (c, xori c (vrotl c 13#32 19#32)) j = sround 13#32 19#32 (0#32, c j) := by
    show (c j, IntOp.xori (c j) (vrotl c 13#32 19#32 j)) = _
    rw [vrotl_at _ _ _ (by decide) (by decide)]
    unfold sround
    rw [BitVec.zero_add]
    rfl
  rw [h]

/-- The kernel's random word at a lane. -/
theorem vword_at {s : Shape} (c : IVec s 32) (j : s.Idx) : vword c j = sword (c j) := by
  have h : lane (vthree c) j = sthree (0#32, c j) := by
    unfold vthree sthree
    rw [lane_vinj, lane_vgrpA, lane_vinj, lane_vgrpB, lane_vinj, lane_vgrpA, lane_vinj, lane_vgrpB, lane_vinj, lane_vfirst]
  show (lane (vthree c) j).1 ^^^ (lane (vthree c) j).2 = _
  rw [h]; rfl

/-! ## The reference's side -/

section
open Cert.ReferenceIdeal Cert.ReferenceIdeal.Facts₀ Cert.ReferenceIdeal.Facts
variable [Facts]

theorem hbc_at (x : IVec S_ 32) (v : BitVec 32) (h : ∀ i, x i = v) (y : S128x100000.Idx) : hbc x y = v := h _

theorem hrot_at (x : IVec S128x100000 32) (l r : BitVec 32) (hl : l.toNat < 32) (hr : r.toNat < 32) (y : S128x100000.Idx) :
    ori (Host.shli x (hbc (constantI S_ 32 l))) (Host.shrui x (hbc (constantI S_ 32 r))) y = ((x y <<< l) ||| (x y >>> r)) := by
  show IntOp.ori (Host.shli x (hbc (constantI S_ 32 l)) y) (Host.shrui x (hbc (constantI S_ 32 r)) y) = _
  unfold Host.shli Host.shrui
  show IntOp.ori (IntOp.shli _ (x y) l) (IntOp.shrui _ (x y) r) = _
  unfold IntOp.shli IntOp.shrui
  rw [if_pos hl, if_pos hr]
  rfl

theorem lane_hround (l r : BitVec 32) (hl : l.toNat < 32) (hr : r.toNat < 32) (p : IVec S128x100000 32 × IVec S128x100000 32)
    (y : S128x100000.Idx) : lane (hround l r p) y = sround l r (lane p y) := by
  show (_, IntOp.xori _ (ori (Host.shli p.2 (hbc (constantI S_ 32 l))) (Host.shrui p.2 (hbc (constantI S_ 32 r))) y)) = _
  rw [hrot_at _ _ _ hl hr]
  rfl

theorem lane_hinj (a b : IVec S_ 32) (n u v w : BitVec 32) (ha : ∀ i, a i = u) (hb : ∀ i, b i = v) (hw : v + n = w)
    (p : IVec S128x100000 32 × IVec S128x100000 32) (y : S128x100000.Idx) : lane (hinj a b n p) y = sinj u w (lane p y) := by
  show (p.1 y + hbc a y, (p.2 y + hbc b y) + n) = (p.1 y + u, p.2 y + w)
  rw [hbc_at a u ha, hbc_at b v hb, BitVec.add_assoc, hw]

theorem lane_hgrpA (p : IVec S128x100000 32 × IVec S128x100000 32) (y : S128x100000.Idx) : lane (hgrpA p) y = sgrpA (lane p y) := by
  unfold hgrpA sgrpA
  rw [lane_hround _ _ (by decide) (by decide), lane_hround _ _ (by decide) (by decide), lane_hround _ _ (by decide) (by decide),
    lane_hround _ _ (by decide) (by decide)]

theorem lane_hgrpB (p : IVec S128x100000 32 × IVec S128x100000 32) (y : S128x100000.Idx) : lane (hgrpB p) y = sgrpB (lane p y) := by
  unfold hgrpB sgrpB
  rw [lane_hround _ _ (by decide) (by decide), lane_hround _ _ (by decide) (by decide), lane_hround _ _ (by decide) (by decide),
    lane_hround _ _ (by decide) (by decide)]

/-- The key's words: `0`, `42` and their mix with the generator's constant. -/
theorem hk0_at (i : S_.Idx) : hk0 i = 0#32 := by
  rw [Subsingleton.elim i fun a => a.elim0]
  decide +kernel
theorem hk1_at (i : S_.Idx) : hk1 i = 42#32 := by
  rw [Subsingleton.elim i fun a => a.elim0]
  decide +kernel
theorem hkey2_at (i : S_.Idx) : hkey2 hk0 hk1 i = 466689008#32 := by
  show (hk0 i ^^^ hk1 i) ^^^ 466688986#32 = _
  rw [hk0_at, hk1_at]; decide

/-- The position of an element, counted along the rows. -/
def posOf (y : S128x100000.Idx) : ℕ := 100000 * (y 0).val + (y 1).val

theorem posOf_lt (y : S128x100000.Idx) : posOf y < 12800000 := by
  have h0 : (y 0).val < 128 := (y 0).isLt
  have h1 : (y 1).val < 100000 := (y 1).isLt
  unfold posOf; omega

theorem hpos_at (y : S128x100000.Idx) : hpos y = BitVec.ofNat 64 (posOf y) := by
  show 100000#64 * BitVec.ofNat 64 (y 0).val + 1#64 * BitVec.ofNat 64 (y 1).val = _
  have h0 : (y 0).val < 128 := (y 0).isLt
  have h1 : (y 1).val < 100000 := (y 1).isLt
  unfold posOf
  apply BitVec.eq_of_toNat_eq
  simp only [BitVec.toNat_add, BitVec.toNat_mul, BitVec.toNat_ofNat]
  omega

theorem hlo_at (y : S128x100000.Idx) : hlo y = BitVec.ofNat 32 (posOf y) := by
  show (hpos y).setWidth 32 = _
  rw [hpos_at]
  have := posOf_lt y
  apply BitVec.eq_of_toNat_eq
  simp only [BitVec.toNat_setWidth, BitVec.toNat_ofNat]
  omega

theorem hhi_at (y : S128x100000.Idx) : hhi y = 0#32 := by
  show (IntOp.shrui _ (hpos y) 32#64).setWidth 32 = _
  unfold IntOp.shrui
  rw [if_pos (by decide), hpos_at, show (BitVec.ofNat 64 (posOf y) >>> 32#64) = BitVec.ofNat 64 (posOf y) >>> (32 : ℕ) from rfl]
  have := posOf_lt y
  apply BitVec.eq_of_toNat_eq
  simp only [BitVec.toNat_setWidth, BitVec.toNat_ofNat, BitVec.toNat_ushiftRight, BitVec.ushiftRight_eq', Nat.shiftRight_eq_div_pow]
  omega

/-- The reference's random word at an element. -/
theorem hbits_at (y : S128x100000.Idx) : hbits y = sword (BitVec.ofNat 32 (posOf y) + 42#32) := by
  have h : lane (hthree hk0 hk1 hhi hlo) y = sthree (0#32, BitVec.ofNat 32 (posOf y) + 42#32) := by
    unfold hthree sthree
    rw [lane_hinj _ _ _ _ _ 5#32 hkey2_at hk0_at (by decide), lane_hgrpA, lane_hinj _ _ _ _ _ 466689012#32 hk1_at hkey2_at (by decide),
      lane_hgrpB, lane_hinj _ _ _ _ _ 45#32 hk0_at hk1_at (by decide), lane_hgrpA,
      lane_hinj _ _ _ _ _ 2#32 hkey2_at hk0_at (by decide), lane_hgrpB,
      lane_hinj _ _ _ _ _ 466689009#32 hk1_at hkey2_at (by decide), lane_hgrpA]
    have e : lane (addi hhi (hbc hk0), addi hlo (hbc hk1)) y = (0#32, BitVec.ofNat 32 (posOf y) + 42#32) := by
      show (hhi y + hbc hk0 y, hlo y + hbc hk1 y) = _
      rw [hhi_at, hlo_at, hbc_at _ _ hk0_at, hbc_at _ _ hk1_at, BitVec.zero_add]
    rw [e]
  show (lane (hthree hk0 hk1 hhi hlo) y).1 ^^^ (lane (hthree hk0 hk1 hhi hlo) y).2 = _
  rw [h]; rfl

end

end Cert.Sampler
-- ==== Proof.Scores.lean ====
/- The scores on the two sides at the ideal values: both are one function of the row and the column. -/
module

public import proofs.«01_k».proof.Proof.Words
public import Idealize.ShloMosaic.PureOps.Ideal.Laws

@[expose] public section

noncomputable section

namespace Cert.Sampler

open Idealize.ShloMosaic

/-- The score of an element from its counter word and its logit, over the extended reals. -/
def sscore (c : BitVec 32) (x : EReal) : EReal :=
  -(Ideal.log (-(Ideal.log (max (Ideal.ofBits .f32 0x00800000#32)
      (Ideal.ofBits .f32 ((sword c >>> (9#32)) ||| 1065353216#32) - Ideal.ofBits .f32 0x3F800000#32)))))
    + Ideal.log (x + Ideal.ofBits .f32 0x2EDBE6FF#32)

attribute [local irreducible] vword sword hbits Ideal.ofBits Ideal.log

section
variable {s : Shape}

theorem addf_at (x y : FVec Ideal s .f32) (j : s.Idx) : addf x y j = (show EReal from x j) + (show EReal from y j) := rfl
theorem subf_at (x y : FVec Ideal s .f32) (j : s.Idx) : subf x y j = (show EReal from x j) - (show EReal from y j) := rfl
theorem maximumf_at (x y : FVec Ideal s .f32) (j : s.Idx) : maximumf x y j = max (show EReal from x j) (show EReal from y j) := rfl
theorem log_at (x : FVec Ideal s .f32) (j : s.Idx) : log x j = Ideal.log (x j) := rfl
theorem hlog_at (x : FVec Ideal s .f32) (j : s.Idx) : Host.log x j = Ideal.log (x j) := rfl
theorem hnegf_at (x : FVec Ideal s .f32) (j : s.Idx) : Host.negf x j = -(show EReal from x j) := rfl
theorem bitcast_at (x : IVec s 32) (j : s.Idx) : bitcastToFloat (F := Ideal) .f32 x j = Ideal.ofBits .f32 (x j) := rfl
theorem bcast_at (b : BitVec 32) (j : s.Idx) : broadcast s (Scalar.ofBits (F := Ideal) .f32 b) j = Ideal.ofBits .f32 b := rfl
theorem shr9_at (x : IVec s 32) (j : s.Idx) :
    ori (shrui x (broadcast s 9#32)) (broadcast s 1065353216#32) j = ((x j >>> (9#32)) ||| 1065353216#32) := by
  show IntOp.ori (IntOp.shrui _ (x j) 9#32) _ = _
  unfold IntOp.shrui
  rw [if_pos (by decide)]
  rfl

end

/-- The kernel's score at a lane. -/
theorem vt_at {s : Shape} (c : IVec s 32) (x : FVec Ideal s .f32) (j : s.Idx) : vt c x j = sscore (c j) (x j) := by
  unfold vt
  rw [addf_at, subf_at, log_at, subf_at, log_at, maximumf_at, subf_at, bitcast_at, shr9_at, log_at, addf_at]
  simp only [bcast_at]
  rw [vword_at, Ideal.ofBits_zero_f32, zero_sub, zero_sub]
  unfold sscore
  with_reducible rfl

/-- An element of the logits by its coordinates. -/
def yix (r c : ℕ) (hr : r < 128) (hc : c < 100000) : Cert.ReferenceIdeal.S128x100000.Idx := fun a => match a with
  | ⟨0, _⟩ => ⟨r, hr⟩
  | ⟨1, _⟩ => ⟨c, hc⟩

theorem yix_eta (y : Cert.ReferenceIdeal.S128x100000.Idx) : yix (y 0).val (y 1).val (y 0).isLt (y 1).isLt = y := by
  funext a
  match a with
  | ⟨0, _⟩ => rfl
  | ⟨1, _⟩ => rfl

theorem yix_congr {r c r' c' : ℕ} (hr : r < 128) (hc : c < 100000) (hr' : r' < 128) (hc' : c' < 100000) (er : r = r') (ec : c = c') :
    yix r c hr hc = yix r' c' hr' hc' := by
  subst er ec; rfl

/-- The score of a row's column, minus infinity past the last one. -/
def rowScore (x : Cert.ReferenceIdeal.S128x100000.Idx → EReal) (r : ℕ) (hr : r < 128) (c : ℕ) : EReal :=
  if hc : c < 100000 then sscore (BitVec.ofNat 32 (100000 * r + c) + 42#32) (x (yix r c hr hc)) else ⊥

section
open Cert.ReferenceIdeal Cert.ReferenceIdeal.Facts₀ Cert.ReferenceIdeal.Facts
variable [Facts]

theorem hbcf_at (b : BitVec 32) (y : S128x100000.Idx) : hbcf (constant (F := Ideal) S_ .f32 b) y = Ideal.ofBits .f32 b := rfl
theorem hshr9_at (x : IVec S128x100000 32) (y : S128x100000.Idx) :
    ori (Host.shrui x (hbc (constantI S_ 32 9#32))) (hbc (constantI S_ 32 1065353216#32)) y = ((x y >>> (9#32)) ||| 1065353216#32) := by
  show IntOp.ori (IntOp.shrui _ (x y) 9#32) _ = _
  unfold IntOp.shrui
  rw [if_pos (by decide)]
  rfl

/-- The reference's score at an element. -/
theorem hscore_at (x : FVec Ideal S128x100000 .f32) (y : S128x100000.Idx) :
    hscore x y = rowScore x (y 0).val (y 0).isLt (y 1).val := by
  unfold rowScore
  rw [dif_pos (show (y 1).val < 100000 from (y 1).isLt), yix_eta]
  unfold hscore hscoreOf
  rw [addf_at, hnegf_at, hlog_at, hnegf_at, hlog_at, maximumf_at, subf_at, bitcast_at, hshr9_at, hlog_at, addf_at]
  simp only [hbcf_at]
  rw [hbits_at]
  unfold sscore posOf
  with_reducible rfl

end

section
open Cert.KernelIdeal Cert.KernelIdeal.Gen
open Idealize.ShloMosaic.Pipeline

/-- A grid point's coordinate is its number. -/
theorem coords_val : ∀ t : Fin grid0.N, (grid0.coords t 0).val = t.val := by decide +kernel

/-- The counter of a lane of chunk `k`: its element's position plus the key word. -/
theorem ctr_at (t : Fin cfg0.N) (k : ℕ) (hk : k < 391) (j : S8x256.Idx) :
    addi (ctrV (grid0.coords t)) (broadcast S8x256 (BitVec.ofNat 32 (256 * k))) j
      = BitVec.ofNat 32 (100000 * (8 * t.val + (j 0).val) + (256 * k + (j 1).val)) + 42#32 := by
  show (((BitVec.ofNat 32 (0 * 8 + (j 0).val) + BitVec.ofNat 32 (grid0.coords t 0).val * 8#32) * 100000#32 + colV j) + 42#32)
    + BitVec.ofNat 32 (256 * k) = _
  rw [colV_apply, coords_val]
  have h0 : (j 0).val < 8 := (j 0).isLt
  have h1 : (j 1).val < 256 := (j 1).isLt
  have ht : t.val < 16 := lt_of_lt_of_eq t.isLt N_0
  apply BitVec.eq_of_toNat_eq
  simp only [BitVec.toNat_add, BitVec.toNat_mul, BitVec.toNat_ofNat]
  omega

/-- The block index of a point is the point, in the rows. -/
theorem index_0 : ∀ t : Fin grid0.N, win0_0.index t 0 = t.val ∧ win0_0.index t 1 = 0 := by decide +kernel

/-- A row block holds its rows of the logits. -/
theorem xb_at (x : Cert.ReferenceIdeal.S128x100000.Idx → EReal) (t : Fin cfg0.N) (y : S8x100096.Idx) (hr : 8 * t.val + (y 0).val < 128)
    (hc : (y 1).val < 100000) : xb (F := Ideal) x t y = x (yix (8 * t.val + (y 0).val) (y 1).val hr hc) := by
  obtain ⟨i0, i1⟩ := index_0 t
  have hm : win0_0.moved (grid0.coords t) y = true := (win0_0.moved_iff _ _).mpr fun a => by
    match a with
    | ⟨0, _⟩ => exact lt_of_lt_of_eq (y 0).isLt (xsize_0 t).1.symm
    | ⟨1, _⟩ => exact lt_of_lt_of_eq hc (xsize_0 t).2.symm
  unfold xb Window.fill
  rw [dif_pos hm]
  refine congrArg x ?_
  funext a
  match a with
  | ⟨0, _⟩ => exact Fin.ext (by show win0_0.index t 0 * 8 + 1 * (y 0).val = 8 * t.val + (y 0).val; rw [i0]; omega)
  | ⟨1, _⟩ => exact Fin.ext (by show win0_0.index t 1 * 100096 + 1 * (y 1).val = (y 1).val; rw [i1]; omega)

/-- A chunk of a row block at a lane. -/
theorem rd_at (x : Cert.ReferenceIdeal.S128x100000.Idx → EReal) (t : Fin cfg0.N) (k : ℕ) (hk : k < 391) (j : S8x256.Idx)
    (hr : 8 * t.val + (j 0).val < 128) (hc : 256 * k + (j 1).val < 100000) :
    rdBlk (F := Ideal) (xb (F := Ideal) x t) k j = x (yix (8 * t.val + (j 0).val) (256 * k + (j 1).val) hr hc) := by
  unfold rdBlk
  rw [dif_pos hk]
  have e0 : ((rct k hk).emb j 0 : ℕ) = (j 0).val := by
    rw [Rect.emb_apply]; show 0 + 1 * (j 0).val = _; omega
  have e1 : ((rct k hk).emb j 1 : ℕ) = 256 * k + (j 1).val := by
    rw [Rect.emb_apply]; show 256 * k + 1 * (j 1).val = _; omega
  refine (xb_at x t _ (by rw [e0]; exact hr) (by rw [e1]; exact hc)).trans ?_
  exact congrArg x (yix_congr _ _ _ _ (by rw [e0]) e1)

/-- The row a lane of a block lies in. -/
theorem row_lt (t : Fin cfg0.N) (j : S8x256.Idx) : 8 * t.val + (j 0).val < 128 := by
  have h0 : (j 0).val < 8 := (j 0).isLt
  have ht : t.val < 16 := lt_of_lt_of_eq t.isLt N_0
  omega

/-- The kernel's score at a lane of a chunk inside the array. -/
theorem score_at (x : Cert.ReferenceIdeal.S128x100000.Idx → EReal) (t : Fin cfg0.N) (k : ℕ) (hk : k < 391) (j : S8x256.Idx)
    (hc : 256 * k + (j 1).val < 100000) :
    vt (addi (ctrV (grid0.coords t)) (broadcast S8x256 (BitVec.ofNat 32 (256 * k)))) (rdBlk (F := Ideal) (xb (F := Ideal) x t) k) j
      = rowScore x (8 * t.val + (j 0).val) (row_lt t j) (256 * k + (j 1).val) := by
  unfold rowScore
  rw [dif_pos hc, vt_at, ctr_at t k hk, rd_at x t k hk j (row_lt t j) hc]

/-- Minus infinity. -/
theorem ninf : Ideal.ofBits .f32 0xFF800000#32 = ⊥ := by simp [Ideal.ofBits, Ideal.ieee]

/-- The kernel's score at a lane of the last chunk, minus infinity past the array's end. -/
theorem last_at (x : Cert.ReferenceIdeal.S128x100000.Idx → EReal) (t : Fin cfg0.N) (j : S8x256.Idx) :
    tLast (ctrV (grid0.coords t)) (rdBlk (F := Ideal) (xb (F := Ideal) x t) 390) j
      = rowScore x (8 * t.val + (j 0).val) (row_lt t j) (256 * 390 + (j 1).val) := by
  rw [tLast_apply]
  by_cases hj : (j 1).val < 160
  · rw [mask_in j hj]
    exact score_at x t 390 (by decide) j (by omega)
  · rw [mask_out j hj]
    unfold rowScore
    rw [dif_neg (by omega)]
    exact ninf

end

end Cert.Sampler
-- ==== Proof.Choice.lean ====
/- The kernel's chosen column: the first column of the largest score, from the scan's per-lane maxima. -/
module

public import proofs.«01_k».proof.Proof.Scores
public import Idealize.ShloMosaic.Lib.Pipeline.Value

@[expose] public section

noncomputable section

namespace Cert.Sampler

open Idealize.ShloMosaic

/-- `c` is the first position below `n` of the largest value of `g`. -/
structure IsFirst (g : ℕ → EReal) (n c : ℕ) : Prop where
  lt : c < n
  le : ∀ d, d < n → g d ≤ g c
  first : ∀ d, d < c → g d < g c

/-- There is one first position of the largest value. -/
theorem IsFirst.unique {g : ℕ → EReal} {n c d : ℕ} (hc : IsFirst g n c) (hd : IsFirst g n d) : c = d := by
  rcases Nat.lt_trichotomy c d with h | h | h
  · exact absurd (hc.le d hd.lt) (not_le.mpr (hd.first c h))
  · exact h
  · exact absurd (hd.le c hc.lt) (not_le.mpr (hc.first d h))

/-- A fold of an operation that keeps one of its two operands, the better in a preorder, gives the best of what it folds over. -/
theorem fold_best {ι α : Type} (op : α → α → α) [Std.Commutative op] [Std.Associative op] (R : α → α → Prop)
    (hr : ∀ a, R a a) (ht : ∀ a b c, R a b → R b c → R a c)
    (hs : ∀ a b, (op a b = a ∨ op a b = b) ∧ R (op a b) a ∧ R (op a b) b) (b : α) (f : ι → α) (S : Finset ι) :
    (S.fold op b f = b ∨ ∃ i ∈ S, S.fold op b f = f i) ∧ R (S.fold op b f) b ∧ ∀ i ∈ S, R (S.fold op b f) (f i) := by
  induction S using Finset.cons_induction with
  | empty => exact ⟨.inl rfl, hr _, fun i hi => absurd hi (Finset.notMem_empty i)⟩
  | cons a S ha ih =>
    rw [Finset.fold_cons]
    obtain ⟨h1, h2, h3⟩ := ih
    obtain ⟨k1, k2, k3⟩ := hs (f a) (S.fold op b f)
    refine ⟨?_, ht _ _ _ k3 h2, fun i hi => ?_⟩
    · rcases k1 with e | e
      · exact .inr ⟨a, Finset.mem_cons_self _ _, e⟩
      · rcases h1 with q | ⟨i, hi, q⟩
        · exact .inl (e.trans q)
        · exact .inr ⟨i, Finset.mem_cons_of_mem hi, e.trans q⟩
    · rcases Finset.mem_cons.mp hi with rfl | hi
      · exact k2
      · exact ht _ _ _ k3 (h3 i hi)

/-! ## The scan at one lane -/

/-- What the running maximum and offset of a lane are after `n` chunks: the start's, or the first chunk of the largest score. -/
def LaneInv (g : ℕ → EReal) (n : ℕ) (m : EReal) (ix : BitVec 32) : Prop :=
  (n = 0 ∧ m = ⊥ ∧ ix = 0#32) ∨ ∃ k, IsFirst g n k ∧ g k = m ∧ ix = BitVec.ofNat 32 (256 * k)

/-- One more chunk keeps it. -/
theorem LaneInv.step {g : ℕ → EReal} {n : ℕ} {m : EReal} {ix : BitVec 32} (h : LaneInv g n m ix) :
    LaneInv g (n + 1) (max m (g n)) (Scalar.select (Ideal.cmp .ogt (g n) m) (BitVec.ofNat 32 (256 * n)) ix) := by
  have hc : Ideal.cmp .ogt (g n) m = BitVec.ofBool (decide (m < g n)) := rfl
  rw [hc]
  rcases h with ⟨rfl, rfl, rfl⟩ | ⟨k, hk, rfl, rfl⟩
  · refine .inr ⟨0, ⟨Nat.one_pos, fun d hd => ?_, fun d hd => absurd hd (Nat.not_lt_zero _)⟩, (max_eq_right bot_le).symm, ?_⟩
    · obtain rfl : d = 0 := by omega
      exact le_rfl
    · unfold Scalar.select
      split <;> rfl
  · by_cases hlt : g k < g n
    · refine .inr ⟨n, ⟨Nat.lt_succ_self n, fun d hd => ?_, fun d hd => lt_of_le_of_lt (hk.le d hd) hlt⟩, (max_eq_right hlt.le).symm, ?_⟩
      · rcases Nat.lt_succ_iff_lt_or_eq.mp hd with h | rfl
        · exact (lt_of_le_of_lt (hk.le d h) hlt).le
        · exact le_rfl
      · rw [decide_eq_true hlt]; rfl
    · refine .inr ⟨k, ⟨Nat.lt_succ_of_lt hk.lt, fun d hd => ?_, hk.first⟩, (max_eq_left (not_lt.mp hlt)).symm, ?_⟩
      · rcases Nat.lt_succ_iff_lt_or_eq.mp hd with h | rfl
        · exact hk.le d h
        · exact not_lt.mp hlt
      · rw [decide_eq_false hlt]; rfl

section
open Cert.KernelIdeal Cert.KernelIdeal.Gen
open Idealize.ShloMosaic.Pipeline

variable (x : Cert.ReferenceIdeal.S128x100000.Idx → EReal) (t : Fin cfg0.N)

/-- The scores a lane meets, chunk by chunk. -/
def laneScore (j : S8x256.Idx) (k : ℕ) : EReal := rowScore x (8 * t.val + (j 0).val) (row_lt t j) (256 * k + (j 1).val)

section
variable (c : IVec S8x256 32) (rd : ℕ → FVec Ideal S8x256 .f32) (n : ℕ) (j : S8x256.Idx)

theorem cmpf_at (a b : FVec Ideal S8x256 .f32) : cmpf .ogt a b j = Ideal.cmp .ogt (a j) (b j) := rfl

theorem offset_at (q : IVec S8x256 1) (b : BitVec 32) (ix : IVec S8x256 32) :
    select q (broadcast S8x256 b) ix j = Scalar.select (q j) b (ix j) := rfl

theorem scanSt_max : (scanSt c rd (n + 1)).1 j
    = max (show EReal from (scanSt c rd n).1 j) (show EReal from vt (addi c (broadcast S8x256 (BitVec.ofNat 32 (256 * n)))) (rd n) j) := by
  conv_lhs => unfold scanSt scanStep
  exact maximumf_at _ _ _

theorem scanSt_off : (scanSt c rd (n + 1)).2 j = Scalar.select
    (Ideal.cmp .ogt (vt (addi c (broadcast S8x256 (BitVec.ofNat 32 (256 * n)))) (rd n) j) ((scanSt c rd n).1 j))
    (BitVec.ofNat 32 (256 * n)) ((scanSt c rd n).2 j) := by
  conv_lhs => unfold scanSt scanStep
  dsimp only
  rw [offset_at, cmpf_at]

theorem scanEnd_max : (scanEnd c rd).1 j = max (show EReal from (scanSt c rd 390).1 j) (show EReal from tLast c (rd 390) j) := by
  unfold scanEnd
  exact maximumf_at _ _ _

theorem scanEnd_off : (scanEnd c rd).2 j = Scalar.select
    (Ideal.cmp .ogt (tLast c (rd 390) j) ((scanSt c rd 390).1 j)) 99840#32 ((scanSt c rd 390).2 j) := by
  unfold scanEnd
  dsimp only
  rw [offset_at, cmpf_at]

end

/-- The scan's state at a lane before the last chunk. -/
theorem scanSt_lane (j : S8x256.Idx) : ∀ n, n ≤ 390 →
    LaneInv (laneScore x t j) n ((scanSt (ctrV (grid0.coords t)) (rdBlk (F := Ideal) (xb (F := Ideal) x t)) n).1 j)
      ((scanSt (ctrV (grid0.coords t)) (rdBlk (F := Ideal) (xb (F := Ideal) x t)) n).2 j) := by
  intro n
  induction n with
  | zero => intro _; exact .inl ⟨rfl, ninf, rfl⟩
  | succ n ih =>
    intro hn
    rw [scanSt_max, scanSt_off, score_at x t n (by omega) j (by have h1 : (j 1).val < 256 := (j 1).isLt; omega)]
    exact (ih (by omega)).step

/-- The scan's state at a lane after the last chunk. -/
theorem scanEnd_lane (j : S8x256.Idx) :
    LaneInv (laneScore x t j) 391 ((scanEnd (ctrV (grid0.coords t)) (rdBlk (F := Ideal) (xb (F := Ideal) x t))).1 j)
      ((scanEnd (ctrV (grid0.coords t)) (rdBlk (F := Ideal) (xb (F := Ideal) x t))).2 j) := by
  rw [scanEnd_max, scanEnd_off, last_at x t j]
  exact (scanSt_lane x t j 390 le_rfl).step

/-! ## Across the lanes -/

/-- An index of a row. -/
def rix (r : ℕ) (hr : r < 8) : S8.Idx := fun a => match a with
  | ⟨0, _⟩ => ⟨r, hr⟩

/-- An index of the column of chosen columns. -/
def oix (r : ℕ) (hr : r < 8) : S8x1.Idx := fun a => match a with
  | ⟨0, _⟩ => ⟨r, hr⟩
  | ⟨1, _⟩ => ⟨0, Nat.one_pos⟩

/-- A lane drops to its row. -/
theorem drop_row (h : S8x256.Reduces [1] S8) (j : S8x256.Idx) (r : ℕ) (hr : r < 8) : h.drop j = rix r hr ↔ (j 0).val = r := by
  have e : (h.drop j 0 : ℕ) = j 0 := h.drop_apply_val_of_eq j 0 0
  constructor
  · intro q
    have q0 : ((h.drop j 0 : Fin _) : ℕ) = r := by rw [q]; rfl
    exact e.symm.trans q0
  · intro q
    funext a
    match a with
    | ⟨0, _⟩ => exact Fin.ext (e.trans q)

/-- A word of a row at the row's place in a column. -/
theorem cast_row {α : Type} (v : S8.Idx → α) (h : S8.ShapeCasts S8x1) (r : ℕ) (hr : r < 8) : shapeCast S8x1 v h (oix r hr) = v (rix r hr) := by
  refine shapeCast_apply v h _ _ ?_
  rw [Shape.rowMajor_val_one, Shape.rowMajor_val_two]
  show r = r * 1 + 0
  omega

/-- A column's word at a lane of its row. -/
theorem spread_row {α : Type} (v : S8x1.Idx → α) (h : S8x1.Broadcasts S8x256) (j : S8x256.Idx) :
    broadcastTo S8x256 v h j = v (oix (j 0).val (j 0).isLt) := by
  refine broadcastTo_apply v h _ _ fun a => ?_
  match a with
  | ⟨0, _⟩ => rfl
  | ⟨1, _⟩ => rfl

/-- The signed value of a small word. -/
theorem toInt_small (n : ℕ) (h : n < 2147483648) : (BitVec.ofNat 32 n).toInt = n := by
  rw [BitVec.toInt_eq_toNat_cond, BitVec.toNat_ofNat]
  rw [Nat.mod_eq_of_lt (by omega), if_pos (by omega)]

/-- The row's chosen column is the first one of the row's largest score. -/
theorem idxV_first (r : ℕ) (hr : r < 8) (hR : 8 * t.val + r < 128)
    (m : FVec Ideal S8x256 .f32) (ix : IVec S8x256 32)
    (hl : ∀ j : S8x256.Idx, LaneInv (laneScore x t j) 391 (m j) (ix j)) :
    ∃ c, IsFirst (rowScore x (8 * t.val + r) hR) 100000 c ∧ idxV (F := Ideal) m ix (oix r hr) = BitVec.ofNat 32 c := by
  have lane : ∀ j : S8x256.Idx, (j 0).val = r → ∃ k, IsFirst (fun k => rowScore x (8 * t.val + r) hR (256 * k + (j 1).val)) 391 k
      ∧ rowScore x (8 * t.val + r) hR (256 * k + (j 1).val) = m j ∧ ix j = BitVec.ofNat 32 (256 * k) := by
    intro j hj
    subst hj
    rcases hl j with ⟨h, -⟩ | h
    · exact absurd h (by decide)
    · exact h
  generalize hf : rowScore x (8 * t.val + r) hR = f at lane ⊢
  have hz : ∀ c, ¬ c < 100000 → f c = ⊥ := fun c hc => by rw [← hf]; exact dif_neg hc
  -- the row's maximum
  generalize hgm : multiReduction .maximumf [1] S8 m 0xFF800000#32 reduces_S8x256_S8 (.inl rfl) rfl (rix r hr) = gm
  have hmax := fold_best (FloatOps.maximumf (F := Ideal) (φ := .f32)) (fun a b : EReal => b ≤ a) (fun a => le_rfl)
    (fun a b c h1 h2 => h2.trans h1)
    (fun a b => ⟨(max_choice (a : EReal) b), le_max_left (a : EReal) b, le_max_right (a : EReal) b⟩)
    (FloatOps.ofBits .f32 0xFF800000#32) m (Finset.univ.filter fun i => reduces_S8x256_S8.drop i = rix r hr)
  rw [← multiReduction_maximumf_eq_fold m 0xFF800000#32 reduces_S8x256_S8 (.inl rfl) rfl (rix r hr), hgm] at hmax
  obtain ⟨hm1, -, hm3⟩ := hmax
  have mem : ∀ j : S8x256.Idx, (j 0).val = r → j ∈ (Finset.univ.filter fun i => reduces_S8x256_S8.drop i = rix r hr) :=
    fun j hj => Finset.mem_filter.mpr ⟨Finset.mem_univ _, (drop_row _ j r hr).mpr hj⟩
  have mem' : ∀ j, j ∈ (Finset.univ.filter fun i => reduces_S8x256_S8.drop i = rix r hr) → (j 0).val = r :=
    fun j hj => (drop_row _ j r hr).mp (Finset.mem_filter.mp hj).2
  have hle : ∀ j : S8x256.Idx, (j 0).val = r → (m j : EReal) ≤ gm := fun j hj => hm3 j (mem j hj)
  have hex : ∃ j : S8x256.Idx, (j 0).val = r ∧ (m j : EReal) = gm := by
    rcases hm1 with e | ⟨j, hj, e⟩
    · have e' : gm = (⊥ : EReal) := e.trans ninf
      refine ⟨cix r 0 hr (by decide), rfl, le_antisymm (hle _ rfl) ?_⟩
      rw [e']; exact bot_le
    · exact ⟨j, mem' j hj, e.symm⟩
  -- the lanes' candidates
  have hcand : ∀ j : S8x256.Idx, (j 0).val = r → ∀ k, ix j = BitVec.ofNat 32 (256 * k) →
      select (cmpf .oeq m (broadcastTo S8x256 (shapeCast S8x1 (multiReduction .maximumf [1] S8 m 0xFF800000#32 reduces_S8x256_S8
        (.inl rfl) rfl) shapeCasts_S8_S8x1) broadcasts_S8x1_S8x256)) (addi ix colV) (broadcast S8x256 2147483647#32) j
      = if (m j : EReal) = gm then BitVec.ofNat 32 (256 * k + (j 1).val) else 2147483647#32 := by
    intro j hj k hk
    have e : broadcastTo S8x256 (shapeCast S8x1 (multiReduction .maximumf [1] S8 m 0xFF800000#32 reduces_S8x256_S8
        (.inl rfl) rfl) shapeCasts_S8_S8x1) broadcasts_S8x1_S8x256 j = gm :=
      ((spread_row _ _ j).trans (cast_row _ _ _ _)).trans (by subst hj; exact hgm)
    show Scalar.select (Ideal.cmp .oeq (m j) (broadcastTo S8x256 (shapeCast S8x1 (multiReduction .maximumf [1] S8 m 0xFF800000#32 reduces_S8x256_S8
        (.inl rfl) rfl) shapeCasts_S8_S8x1) broadcasts_S8x1_S8x256 j)) (ix j + colV j) 2147483647#32 = _
    rw [e, hk, colV_apply, ← BitVec.ofNat_add]
    show Scalar.select (BitVec.ofBool (decide ((m j : EReal) = gm))) _ _ = _
    by_cases h : (m j : EReal) = gm
    · rw [if_pos h, decide_eq_true h]; rfl
    · rw [if_neg h, decide_eq_false h]; rfl
  -- the least candidate
  have hrow : idxV m ix (oix r hr) = multiReductionI .minsi [1] S8 (select (cmpf .oeq m (broadcastTo S8x256 (shapeCast S8x1
      (multiReduction .maximumf [1] S8 m 0xFF800000#32 reduces_S8x256_S8 (.inl rfl) rfl) shapeCasts_S8_S8x1) broadcasts_S8x1_S8x256))
      (addi ix colV) (broadcast S8x256 2147483647#32)) 2147483647#32 reduces_S8x256_S8 rfl (rix r hr) := cast_row _ _ r hr
  rw [hrow]
  generalize hv : select (cmpf .oeq m (broadcastTo S8x256 (shapeCast S8x1 (multiReduction .maximumf [1] S8 m 0xFF800000#32 reduces_S8x256_S8
        (.inl rfl) rfl) shapeCasts_S8_S8x1) broadcasts_S8x1_S8x256)) (addi ix colV) (broadcast S8x256 2147483647#32) = v at hcand ⊢
  have hmin := fold_best (IKind.op .minsi) (fun a b => a.toInt ≤ b.toInt) (fun a => le_rfl) (fun a b c h1 h2 => h1.trans h2)
    (fun a b => by
      show (IntOp.minsi a b = a ∨ IntOp.minsi a b = b) ∧ (IntOp.minsi a b).toInt ≤ a.toInt ∧ (IntOp.minsi a b).toInt ≤ b.toInt
      unfold IntOp.minsi
      simp only [BitVec.slt, decide_eq_true_eq]
      split
      · exact ⟨.inl rfl, le_rfl, by omega⟩
      · exact ⟨.inr rfl, by omega, le_rfl⟩)
    2147483647#32 v (Finset.univ.filter fun i => reduces_S8x256_S8.drop i = rix r hr)
  rw [← multiReductionI_eq_fold .minsi v 2147483647#32 reduces_S8x256_S8 rfl (rix r hr)] at hmin
  generalize multiReductionI .minsi [1] S8 v 2147483647#32 reduces_S8x256_S8 rfl (rix r hr) = w at hmin ⊢
  obtain ⟨hw1, -, hw3⟩ := hmin
  have top : (2147483647#32).toInt = 2147483647 := by decide
  -- an attaining lane's candidate bounds the least
  have hb : ∀ j : S8x256.Idx, (j 0).val = r → (m j : EReal) = gm → ∀ k, k < 391 → ix j = BitVec.ofNat 32 (256 * k) →
      w.toInt ≤ ((256 * k + (j 1).val : ℕ) : ℤ) := by
    intro j hj hg k hk hix
    have q := hw3 j (mem j hj)
    rw [hcand j hj k hix, if_pos hg] at q
    have h1 : (j 1).val < 256 := (j 1).isLt
    rwa [toInt_small _ (by omega)] at q
  have hlt : w.toInt < 2147483647 := by
    obtain ⟨j, hj, hg⟩ := hex
    obtain ⟨k, hk, -, hix⟩ := lane j hj
    have h1 : (j 1).val < 256 := (j 1).isLt
    have hk1 := hk.lt
    have := hb j hj hg k hk1 hix
    omega
  obtain ⟨j, hjm, hwj⟩ : ∃ j ∈ (Finset.univ.filter fun i => reduces_S8x256_S8.drop i = rix r hr), w = v j := by
    rcases hw1 with e | h
    · rw [e, top] at hlt; exact absurd hlt (lt_irrefl _)
    · exact h
  have hj := mem' j hjm
  obtain ⟨k, hk, hmk, hix⟩ := lane j hj
  rw [hcand j hj k hix] at hwj
  have hg : (m j : EReal) = gm := by
    by_contra h
    rw [if_neg h] at hwj
    rw [hwj, top] at hlt; exact absurd hlt (lt_irrefl _)
  rw [if_pos hg] at hwj
  have h1 : (j 1).val < 256 := (j 1).isLt
  have hk1 := hk.lt
  have hwi : w.toInt = ((256 * k + (j 1).val : ℕ) : ℤ) := by rw [hwj, toInt_small _ (by omega)]
  -- every column's score is at most the row's maximum
  have hall : ∀ d, d < 100096 → f d ≤ gm := by
    intro d hd
    obtain ⟨k', hk', hm', -⟩ := lane (cix r (d % 256) hr (Nat.mod_lt _ (by decide))) rfl
    have q := hk'.le (d / 256) (by omega)
    rw [show f (256 * k' + _) = _ from hm'] at q
    have e : 256 * (d / 256) + d % 256 = d := by omega
    exact le_trans (le_of_eq (congrArg f e.symm)) (q.trans (hle _ rfl))
  have hfirst : ∀ d, d < 256 * k + (j 1).val → f d < gm := by
    intro d hd
    refine lt_of_le_of_ne (hall d (by omega)) fun e => ?_
    obtain ⟨k', hk', hm', hix'⟩ := lane (cix r (d % 256) hr (Nat.mod_lt _ (by decide))) rfl
    have e' : f (256 * (d / 256) + d % 256) = gm := by rw [show 256 * (d / 256) + d % 256 = d by omega]; exact e
    have hg' : (m (cix r (d % 256) hr (Nat.mod_lt _ (by decide))) : EReal) = gm := by
      refine le_antisymm (hle _ rfl) ?_
      rw [← hm', ← e']
      exact hk'.le (d / 256) (by omega)
    have hkk : k' ≤ d / 256 := by
      by_contra h
      have q := hk'.first (d / 256) (by omega)
      rw [show f (256 * k' + _) = _ from hm', hg'] at q
      exact absurd (e' ▸ q) (lt_irrefl _)
    have q := hb _ rfl hg' k' hk'.lt hix'
    rw [hwi] at q
    have q' : 256 * k + (j 1).val ≤ 256 * k' + d % 256 := by exact_mod_cast q
    omega
  have hfc : f (256 * k + (j 1).val) = gm := hmk.trans hg
  refine ⟨256 * k + (j 1).val, ⟨?_, fun d hd => ?_, fun d hd => ?_⟩, hwj⟩
  · by_contra h
    have q := hfirst 0 (by omega)
    rw [← hfc, hz _ h] at q
    exact absurd q not_lt_bot
  · rw [hfc]; exact hall d (by omega)
  · rw [hfc]; exact hfirst d hd

/-- The kernel's chosen column of a row. -/
theorem blkIdx_first (r : ℕ) (hr : r < 8) (hR : 8 * t.val + r < 128) :
    ∃ c, IsFirst (rowScore x (8 * t.val + r) hR) 100000 c ∧ blkIdx (grid0.coords t) (xb (F := Ideal) x t) (oix r hr) = BitVec.ofNat 32 c :=
  idxV_first x t r hr hR _ _ (scanEnd_lane x t)

end

end Cert.Sampler
-- ==== Proof.Value.lean ====
/- The two results are one array at the ideal values: a one in each row at the first column of the largest score. -/
module

public import proofs.«01_k».proof.Proof.Choice
public import Idealize.ShloMosaic.Lib.Routing.OpsSet

@[expose] public section

noncomputable section

namespace Cert.Sampler

open Idealize.ShloMosaic

/-- A left fold of an operation that keeps one of its two operands, the better in a preorder, gives the best of the list and the start. -/
theorem foldl_best {α : Type} (op : α → α → α) (R : α → α → Prop) (hr : ∀ a, R a a) (ht : ∀ a b c, R a b → R b c → R a c)
    (hs : ∀ a b, (op a b = a ∨ op a b = b) ∧ R (op a b) a ∧ R (op a b) b) (l : List α) : ∀ b : α,
    (l.foldl op b = b ∨ l.foldl op b ∈ l) ∧ R (l.foldl op b) b ∧ ∀ q ∈ l, R (l.foldl op b) q := by
  induction l with
  | nil => intro b; exact ⟨.inl rfl, hr _, fun q hq => absurd hq List.not_mem_nil⟩
  | cons a l ih =>
    intro b
    rw [List.foldl_cons]
    obtain ⟨h1, h2, h3⟩ := ih (op b a)
    obtain ⟨k1, k2, k3⟩ := hs b a
    refine ⟨?_, ht _ _ _ h2 k2, fun q hq => ?_⟩
    · rcases h1 with e | e
      · rcases k1 with k | k
        · exact .inl (e.trans k)
        · exact .inr (by rw [e, k]; exact List.mem_cons_self)
      · exact .inr (List.mem_cons_of_mem _ e)
    · rcases List.mem_cons.mp hq with rfl | hq
      · exact ht _ _ _ h2 k3
      · exact h3 q hq

section
open Cert.ReferenceIdeal Cert.ReferenceIdeal.Facts₀ Cert.ReferenceIdeal.Facts
variable [Facts]

/-- One scored position is at least as good as another: a larger score, or the same one no later. -/
def Better (p q : EReal × BitVec 32) : Prop := q.1 < p.1 ∨ (p.1 = q.1 ∧ p.2.toInt ≤ q.2.toInt)

/-- The reference's reducer keeps the better of two scored positions. -/
theorem reducer_at (a b : EReal × BitVec 32) : reducer_argmax_f32_i32 (F := Ideal) a b
    = if b.1 < a.1 ∨ (a.1 = b.1 ∧ a.2.toInt < b.2.toInt) then a else b := by
  have h : reducer_argmax_f32_i32 (F := Ideal) a b
      = (Scalar.select (IntOp.ori (BitVec.ofBool (decide (b.1 < a.1))) (BitVec.ofBool (decide (a.1 ≠ a.1)))) a.1 b.1,
        Scalar.select (IntOp.ori (IntOp.ori (BitVec.ofBool (decide (b.1 < a.1))) (BitVec.ofBool (decide (a.1 ≠ a.1))))
          (IntOp.andi (BitVec.ofBool (decide (a.1 = b.1))) (BitVec.ofBool (a.2.slt b.2)))) a.2 b.2) := rfl
  rw [h, decide_eq_false (not_not.mpr (rfl : a.1 = a.1))]
  have hs : a.2.slt b.2 = decide (a.2.toInt < b.2.toInt) := rfl
  rw [hs]
  rcases lt_trichotomy a.1 b.1 with q | q | q
  · rw [decide_eq_false (not_lt.mpr q.le), decide_eq_false q.ne, if_neg (fun h => h.elim (fun e => absurd e (not_lt.mpr q.le)) (fun e => q.ne e.1))]
    cases decide (a.2.toInt < b.2.toInt) <;> rfl
  · rw [decide_eq_false (not_lt.mpr q.le), decide_eq_true q]
    by_cases h2 : a.2.toInt < b.2.toInt
    · rw [decide_eq_true h2, if_pos (.inr ⟨q, h2⟩)]
      exact Prod.ext q.symm rfl
    · rw [decide_eq_false h2, if_neg (fun h => h.elim (fun e => absurd e (not_lt.mpr q.le)) (fun e => h2 e.2))]
      rfl
  · rw [decide_eq_true q, decide_eq_false q.ne', if_pos (.inl q)]
    cases decide (a.2.toInt < b.2.toInt) <;> rfl

theorem Better.refl (p : EReal × BitVec 32) : Better p p := .inr ⟨rfl, le_rfl⟩

theorem Better.trans (p q r : EReal × BitVec 32) (h : Better p q) (h' : Better q r) : Better p r := by
  rcases h with h | ⟨h, k⟩ <;> rcases h' with h' | ⟨h', k'⟩
  · exact .inl (h'.trans h)
  · exact .inl (h' ▸ h)
  · exact .inl (h ▸ h')
  · exact .inr ⟨h.trans h', k.trans k'⟩

theorem reducer_best (a b : EReal × BitVec 32) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  rw [reducer_at]
  split
  · next h => exact ⟨.inl rfl, Better.refl _, h.imp id fun e => ⟨e.1, e.2.le⟩⟩
  · next h =>
    refine ⟨.inr rfl, ?_, Better.refl _⟩
    rcases lt_trichotomy a.1 b.1 with q | q | q
    · exact .inl q
    · exact .inr ⟨q.symm, not_lt.mp fun e => h (.inr ⟨q, e⟩)⟩
    · exact absurd (.inl q) h

/-- An index of the rows. -/
def hix (r : ℕ) (hr : r < 128) : S128.Idx := fun a => match a with
  | ⟨0, _⟩ => ⟨r, hr⟩

theorem hix_eta (k : S128.Idx) : hix (k 0).val (k 0).isLt = k := by
  funext a
  match a with
  | ⟨0, _⟩ => rfl

/-- An element drops to its row. -/
theorem drop_hix (h : S128x100000.ReducesTo [1] S128) (y : S128x100000.Idx) (r : ℕ) (hr : r < 128) : h.drop y = hix r hr ↔ (y 0).val = r := by
  have e : (h.drop y 0 : ℕ) = y 0 := h.drop_apply_val_of_eq y 0 0
  constructor
  · intro q
    have q0 : ((h.drop y 0 : Fin _) : ℕ) = r := by rw [q]; rfl
    exact e.symm.trans q0
  · intro q
    funext a
    match a with
    | ⟨0, _⟩ => exact Fin.ext (e.trans q)

attribute [local irreducible] hscore rowScore Host.argReduce Host.reduce2

/-- The scored positions of a row the reducer folds over. -/
def rowFiber (x : FVec Ideal S128x100000 .f32) (r : ℕ) (hr : r < 128) : List (EReal × BitVec 32) :=
  Host.argReduceFiber (hscore x) (iotaInDim S128x100000 32 1) reducesTo_S128x100000_S128_d1 (hix r hr)

theorem fiber_pair (x : FVec Ideal S128x100000 .f32) (y : S128x100000.Idx) :
    ((hscore x y, iotaInDim S128x100000 32 1 y) : EReal × BitVec 32) = (rowScore x (y 0).val (y 0).isLt (y 1).val, BitVec.ofNat 32 (y 1).val) :=
  Prod.ext (hscore_at x y) rfl

/-- Every scored position of the row is among them. -/
theorem mem_fiber (x : FVec Ideal S128x100000 .f32) (r : ℕ) (hr : r < 128) (d : ℕ) (hd : d < 100000) :
    (rowScore x r hr d, BitVec.ofNat 32 d) ∈ rowFiber x r hr := by
  unfold rowFiber Host.argReduceFiber
  refine List.mem_map.mpr ⟨S128x100000.rowMajor (yix r d hr hd), List.mem_filter.mpr ⟨List.mem_finRange _, decide_eq_true ?_⟩, ?_⟩
  · rw [Equiv.symm_apply_apply]
    exact (drop_hix _ _ r hr).mpr rfl
  · rw [Equiv.symm_apply_apply]
    exact fiber_pair x (yix r d hr hd)

/-- They are the row's scored positions. -/
theorem of_mem_fiber (x : FVec Ideal S128x100000 .f32) (r : ℕ) (hr : r < 128) (p : EReal × BitVec 32) (hp : p ∈ rowFiber x r hr) :
    ∃ c, c < 100000 ∧ p = (rowScore x r hr c, BitVec.ofNat 32 c) := by
  unfold rowFiber Host.argReduceFiber at hp
  obtain ⟨n, hn, rfl⟩ := List.mem_map.mp hp
  have hd := (drop_hix _ _ r hr).mp (of_decide_eq_true (List.mem_filter.mp hn).2)
  generalize S128x100000.rowMajor.symm n = y at hd ⊢
  refine ⟨(y 1).val, (y 1).isLt, ?_⟩
  subst hd
  exact fiber_pair x y

/-- The start of the reference's fold: minus infinity at position zero. -/
theorem fold_start : ((constant (F := Ideal) S_ .f32 0xFF800000#32 (Shape.Idx.first h_S_), constantI S_ 32 0#32 (Shape.Idx.first h_S_))
      : EReal × BitVec 32) = (⊥, 0#32) := Prod.ext ninf rfl

/-- The reference's chosen column is the position half of its two-array reduction. -/
theorem hargmax_fun (y : FVec Ideal S128x100000 .f32) : hargmax (F := Ideal) y
    = fun j => (Host.argReduce (F := Ideal) (reducer_argmax_f32_i32 (F := Ideal)) y (iotaInDim S128x100000 32 1)
        (constant (F := Ideal) S_ .f32 0xFF800000#32) (constantI S_ 32 0#32) reducesTo_S128x100000_S128_d1 h_S_ j).2 := by
  chain_rfl

/-- That reduction is a fold over the row's positions in order. -/
theorem fold_at (y : FVec Ideal S128x100000 .f32) (j : S128.Idx) : hargmax y j
    = ((Host.argReduceFiber y (iotaInDim S128x100000 32 1) reducesTo_S128x100000_S128_d1 j).foldl (reducer_argmax_f32_i32 (F := Ideal))
      (constant (F := Ideal) S_ .f32 0xFF800000#32 (Shape.Idx.first h_S_), constantI S_ 32 0#32 (Shape.Idx.first h_S_))).2 :=
  (congrFun (hargmax_fun y) j).trans (congrArg Prod.snd ((congrFun (Ideal.argReduce_eq_reduce2 _ _ _ _ _ _ _) j).trans
    (Host.reduce2_eq_foldl_fiber _ _ _ _ _ _ _ _)))

/-- The reference's chosen column, as the fold over them. -/
theorem hargmax_fold (x : FVec Ideal S128x100000 .f32) (r : ℕ) (hr : r < 128) :
    hargmax (hscore x) (hix r hr) = ((rowFiber x r hr).foldl (reducer_argmax_f32_i32 (F := Ideal)) ((⊥ : EReal), 0#32)).2 := by
  rw [fold_at, ← fold_start]
  rfl

/-- The reference's chosen column of a row is the first one of the row's largest score. -/
theorem hargmax_first (x : FVec Ideal S128x100000 .f32) (r : ℕ) (hr : r < 128) :
    ∃ c, IsFirst (rowScore x r hr) 100000 c ∧ hargmax (hscore x) (hix r hr) = BitVec.ofNat 32 c := by
  rw [hargmax_fold]
  have hb := foldl_best (α := EReal × BitVec 32) (reducer_argmax_f32_i32 (F := Ideal)) Better Better.refl Better.trans reducer_best
    (rowFiber x r hr) ((⊥ : EReal), 0#32)
  have hmem := mem_fiber x r hr
  have hmem' := of_mem_fiber x r hr
  generalize rowFiber x r hr = l at hb hmem hmem' ⊢
  generalize List.foldl (reducer_argmax_f32_i32 (F := Ideal)) (((⊥ : EReal), 0#32) : EReal × BitVec 32) l = p at hb ⊢
  obtain ⟨h1, -, h3⟩ := hb
  have fin : ∀ c, c < 100000 → p = (rowScore x r hr c, BitVec.ofNat 32 c) → ∃ c, IsFirst (rowScore x r hr) 100000 c ∧ p.2 = BitVec.ofNat 32 c := by
    intro c hc e
    refine ⟨c, ⟨hc, fun d hd => ?_, fun d hd => ?_⟩, by rw [e]⟩
    · rcases h3 _ (hmem d hd) with q | q
      · rw [e] at q; exact le_of_lt q
      · rw [e] at q; exact le_of_eq q.1.symm
    · rcases h3 _ (hmem d (by omega)) with q | q
      · rw [e] at q; exact q
      · rw [e] at q
        have q2 := q.2
        rw [toInt_small _ (by omega), toInt_small _ (by omega)] at q2
        exact absurd hd (by omega)
  have res : ∃ c, IsFirst (rowScore x r hr) 100000 c ∧ p.2 = BitVec.ofNat 32 c := by
    rcases h1 with e | e
    · refine fin 0 (by decide) ?_
      have q := h3 _ (hmem 0 (by decide))
      rw [e] at q ⊢
      rcases q with q | q
      · exact absurd q not_lt_bot
      · exact Prod.ext q.1 rfl
    · obtain ⟨c, hc, e'⟩ := hmem' p e
      exact fin c hc e'
  exact res

/-! ## The scatter of the ones -/

/-- An index of the pairs of positions. -/
def pix (r q : ℕ) (hr : r < 128) (hq : q < 2) : S128x2.Idx := fun a => match a with
  | ⟨0, _⟩ => ⟨r, hr⟩
  | ⟨1, _⟩ => ⟨q, hq⟩

/-- An index of a column of positions. -/
def uix (r : ℕ) (hr : r < 128) : S128x1.Idx := fun a => match a with
  | ⟨0, _⟩ => ⟨r, hr⟩
  | ⟨1, _⟩ => ⟨0, Nat.one_pos⟩

/-- A small position is not counted from the end. -/
theorem hwrap_small (n : BitVec 32) (v : IVec S128 32) (k : S128.Idx) (c : ℕ) (hc : c < 2147483648) (h : v k = BitVec.ofNat 32 c) :
    hwrap n v k = BitVec.ofNat 32 c := by
  show Scalar.select (IntOp.cmpi .slt (v k) 0#32) (v k + n) (v k) = _
  rw [h]
  exact Routing.wrap_of_lt _ _ (by rw [BitVec.toNat_ofNat]; show c % 4294967296 < 2147483648; omega)

/-- The pairs' first words are the rows. -/
theorem starts_row (v : IVec S128 32) (r : ℕ) (hr : r < 128) : startsOf v (pix r 0 hr (by decide)) = BitVec.ofNat 32 r := by
  unfold startsOf
  refine (concatenate_pair_apply_left (t := S128x2) (s₁ := S128x1) (s₂ := S128x1) (1 : Fin 2) _ _ concatenates_S128x1_S128x1_S128x2_d1 _ rfl
    (uix r hr) fun b => ?_).trans ?_
  · match b with
    | ⟨0, _⟩ => rfl
    | ⟨1, _⟩ => rfl
  · refine (broadcastInDim_apply _ bcast_S128_S128x1_0 _ _ (hix r hr) fun a => ?_).trans ?_
    · match a with
      | ⟨0, _⟩ => rfl
    · exact hwrap_small _ _ _ r (by omega) rfl

/-- The pairs' second words are the given columns. -/
theorem starts_col (v : IVec S128 32) (r : ℕ) (hr : r < 128) (c : ℕ) (hc : c < 2147483648) (h : v (hix r hr) = BitVec.ofNat 32 c) :
    startsOf v (pix r 1 hr (by decide)) = BitVec.ofNat 32 c := by
  unfold startsOf
  refine (concatenate_pair_apply_right (t := S128x2) (s₁ := S128x1) (s₂ := S128x1) (1 : Fin 2) _ _ concatenates_S128x1_S128x1_S128x2_d1 _ rfl rfl
    (uix r hr) (fun b hb => ?_) rfl).trans ?_
  · match b with
    | ⟨0, _⟩ => rfl
    | ⟨1, _⟩ => exact absurd rfl hb
  · refine (broadcastInDim_apply _ bcast_S128_S128x1_0 _ _ (hix r hr) fun a => ?_).trans ?_
    · match a with
      | ⟨0, _⟩ => rfl
    · exact hwrap_small _ _ _ c hc h

/-- Where an update of the scatter starts: at its pair of words. -/
theorem start_at (idx : IVec S128x2 32) (r : ℕ) (hr : r < 128) :
    scatter_S128x100000_S128x2_S128_n_01_01_1.start (hix r hr) idx 0 = (idx (pix r 0 hr (by decide))).toInt
      ∧ scatter_S128x100000_S128x2_S128_n_01_01_1.start (hix r hr) idx 1 = (idx (pix r 1 hr (by decide))).toInt := by
  constructor
  · unfold ScatterDims.start
    rw [dif_pos (by decide)]
    refine congrArg (fun i => (idx i).toInt) (funext fun b => ?_)
    match b with
    | ⟨0, _⟩ => rfl
    | ⟨1, _⟩ => rfl
  · unfold ScatterDims.start
    rw [dif_pos (by decide)]
    refine congrArg (fun i => (idx i).toInt) (funext fun b => ?_)
    match b with
    | ⟨0, _⟩ => rfl
    | ⟨1, _⟩ => rfl

/-- An update of the scatter lands at the element its pair of words names. -/
theorem lands_at (idx : IVec S128x2 32) (r : ℕ) (hr : r < 128) (c : ℕ) (hc : c < 100000)
    (h0 : idx (pix r 0 hr (by decide)) = BitVec.ofNat 32 r) (h1 : idx (pix r 1 hr (by decide)) = BitVec.ofNat 32 c) (y : S128x100000.Idx) :
    scatter_S128x100000_S128x2_S128_n_01_01_1.resultIdx? (hix r hr) idx = some y ↔ r = (y 0).val ∧ c = (y 1).val := by
  obtain ⟨s0, s1⟩ := start_at idx r hr
  rw [Routing.resultIdx?_eq_some]
  constructor
  · intro h
    have a0 := h 0
    have a1 := h 1
    rw [s0, h0, toInt_small _ (by omega)] at a0
    rw [s1, h1, toInt_small _ (by omega)] at a1
    have a0' : (r : ℤ) + 0 = ((y 0).val : ℤ) := a0
    have a1' : (c : ℤ) + 0 = ((y 1).val : ℤ) := a1
    omega
  · intro h a
    match a with
    | ⟨0, _⟩ =>
      refine (congrArg (· + _) (s0.trans (by rw [h0, toInt_small _ (by omega)]))).trans ?_
      show (r : ℤ) + 0 = ((y 0).val : ℤ)
      omega
    | ⟨1, _⟩ =>
      refine (congrArg (· + _) (s1.trans (by rw [h1, toInt_small _ (by omega)]))).trans ?_
      show (c : ℤ) + 0 = ((y 1).val : ℤ)
      omega

/-- The reference's result at an element: one at the row's chosen column, zero elsewhere. -/
theorem outOf_at (s : FVec Ideal S128x100000 .f32) (col : ∀ r, r < 128 → ℕ) (hcol : ∀ r hr, col r hr < 100000)
    (hv : ∀ r hr, hargmax s (hix r hr) = BitVec.ofNat 32 (col r hr)) (y : S128x100000.Idx) :
    outOf s y = if (y 1).val = col (y 0).val (y 0).isLt then Ideal.ofBits .f32 0x3F800000#32 else Ideal.ofBits .f32 0x00000000#32 := by
  have hl : ∀ k : S128.Idx, scatter_S128x100000_S128x2_S128_n_01_01_1.resultIdx? k (startsOf (hargmax s)) = some y
      ↔ (k 0).val = (y 0).val ∧ col (k 0).val (k 0).isLt = (y 1).val := by
    intro k
    have q := lands_at (startsOf (hargmax s)) (k 0).val (k 0).isLt (col (k 0).val (k 0).isLt) (hcol _ _) (starts_row _ _ _)
      (starts_col _ _ _ _ (lt_trans (hcol _ _) (by decide)) (hv _ _)) y
    rwa [hix_eta] at q
  unfold outOf
  split
  · next h =>
    refine Routing.scatter_set_hit _ _ _ _ y _ (fun k _ => rfl) (hix (y 0).val (y 0).isLt) ((hl _).mpr ⟨rfl, h.symm⟩)
  · next h =>
    refine (Routing.scatter_set_miss _ _ _ _ y fun k hk => ?_).trans rfl
    obtain ⟨e0, e1⟩ := (hl k).mp hk
    have : ∀ r hr r' hr', r = r' → col r hr = col r' hr' := fun r hr r' hr' e => by subst e; rfl
    exact h (e1.symm.trans (this _ _ _ _ e0))

end

/-! ## The two results -/

section
open Cert.KernelIdeal Cert.KernelIdeal.Gen

/-- The kernel's one-hot block at an element. -/
theorem hotBlk_at (idx : IVec S8x1 32) (y : S8x100096.Idx) (c : ℕ) (hc : c < 100000)
    (h : idx (oix (y 0).val (y 0).isLt) = BitVec.ofNat 32 c) :
    hotBlk (F := Ideal) idx y = if (y 1).val = c then Ideal.ofBits .f32 0x3F800000#32 else Ideal.ofBits .f32 0x00000000#32 := by
  have hy : (y 1).val < 100096 := (y 1).isLt
  have e : (BitVec.ofNat 32 ((y 1).val % 256) + BitVec.ofNat 32 (256 * ((y 1).val / 256))) = BitVec.ofNat 32 (y 1).val := by
    rw [← BitVec.ofNat_add]
    congr 1
    omega
  have hs : hotBlk (F := Ideal) idx y = ((((BitVec.ofBool (decide ((y 1).val = c))).setWidth 32).toInt : ℝ) : EReal) := by
    unfold hotBlk emitVal
    show ((((IntOp.cmpi .eq (colV (cix (y 0).val ((y 1).val % 256) _ _) + BitVec.ofNat 32 (256 * ((y 1).val / 256)))
      (broadcastTo S8x256 idx _ (cix (y 0).val ((y 1).val % 256) _ _))).setWidth 32).toInt : ℝ) : EReal) = _
    rw [spread_row, colV_apply]
    show ((((BitVec.ofBool (decide (BitVec.ofNat 32 ((y 1).val % 256) + BitVec.ofNat 32 (256 * ((y 1).val / 256))
      = idx (oix (y 0).val (y 0).isLt)))).setWidth 32).toInt : ℝ) : EReal) = _
    rw [e, h]
    have hd : (BitVec.ofNat 32 (y 1).val = BitVec.ofNat 32 c) ↔ (y 1).val = c := by
      constructor
      · intro q
        have q' := congrArg BitVec.toNat q
        rw [BitVec.toNat_ofNat, BitVec.toNat_ofNat] at q'
        omega
      · intro q; rw [q]
    rw [decide_eq_decide.mpr hd]
  rw [hs]
  have h1 : Ideal.ofBits .f32 0x3F800000#32 = 1 := by
    simp [Ideal.ofBits, Ideal.ieee]
    rw [← EReal.coe_mul]
    norm_num
  split
  · next q =>
    rw [decide_eq_true q, h1]
    show (((1 : ℤ) : ℝ) : EReal) = 1
    norm_num
  · next q =>
    rw [decide_eq_false q, Ideal.ofBits_zero_f32]
    show (((0 : ℤ) : ℝ) : EReal) = 0
    norm_num

/-- At the ideal values the kernel's result is the reference's. -/
theorem kern_eq_ref [Cert.ReferenceIdeal.Facts] (x : Cert.ReferenceIdeal.S128x100000.Idx → EReal) :
    kernVal (F := Ideal) x = refVal (F := Ideal) x := by
  choose col hcol hv using fun (r : ℕ) (hr : r < 128) => hargmax_first x r hr
  funext y
  have hy0 : (y 0).val < 128 := (y 0).isLt
  have ht : (tOf (y 0).val (y 0).isLt).val = (y 0).val / 8 := rfl
  have hR : 8 * (tOf (y 0).val (y 0).isLt).val + (y 0).val % 8 < 128 := by rw [ht]; omega
  obtain ⟨c, hc, hk⟩ := blkIdx_first x (tOf (y 0).val (y 0).isLt) ((y 0).val % 8) (Nat.mod_lt _ (by decide)) hR
  have hce : c = col (y 0).val (y 0).isLt := by
    refine hc.unique ?_
    have q : 8 * (tOf (y 0).val (y 0).isLt).val + (y 0).val % 8 = (y 0).val := by rw [ht]; omega
    have g : ∀ r hr, r = (y 0).val → IsFirst (rowScore x r hr) 100000 (col (y 0).val (y 0).isLt) := by
      intro r hr e; subst e; exact hcol _ _
    exact g _ _ q
  refine Eq.trans ?_ (outOf_at (hscore x) col (fun r hr => (hcol r hr).lt) hv y).symm
  rw [← hce]
  exact hotBlk_at _ (bix ((y 0).val % 8) (y 1).val _ _) c hc.lt hk

end

end Cert.Sampler
-- ==== Proof.lean ====
/- The claims: the three frames, the kernel's idealization, and the kernel's value against the reference's. -/
module

public import proofs.«01_k».proof.Defs
public import proofs.«01_k».proof.Proof.Frames
public import proofs.«01_k».proof.Proof.RefFrame
public import proofs.«01_k».proof.Proof.Value

@[expose] public section

noncomputable section

namespace Cert.Proof

open Idealize.ShloMosaic Idealize.ShloMosaic.TcCoe Idealize.SL.Sem

/-- The reference's frame: its run, and it declares no semaphore. -/
theorem frame_ref : @Cert.quiescent_ReferenceIdeal Cert.ReferenceIdeal.Gen.facts := fun m g _ =>
  haveI := Cert.ReferenceIdeal.Gen.facts
  (θ_run _ _ _).mono (fun r h => ⟨fun c => (h c).2, sem_eq_zero_of_no_sems (by decide) r.2⟩) (Cert.Sampler.ref_run (F := Ideal) m g)

/-- The kernel's one-hot samples are the reference's, over the extended reals. -/
theorem value_eq : @Cert.algebraic_KernelIdeal_ReferenceIdeal Cert.KernelIdeal.Gen.facts Cert.ReferenceIdeal.Gen.facts := by
  intro m g m' g' _ hm
  haveI := Cert.ReferenceIdeal.Gen.facts
  refine ⟨fun c => Cert.Sampler.kernVal (F := Ideal) (m ((c.tc : Thread Cert.KernelIdeal.nD Cert.KernelIdeal.τ).loc Cert.KernelIdeal.main_arg0)), ?_, ?_⟩
  · exact (θ_run _ _ _).mono (fun r h => h.1) (Cert.Sampler.kernel_run (F := Ideal) m g)
  · refine (θ_run _ _ _).mono (fun r h c => ⟨(h c).1.trans ?_, (h c).2⟩) (Cert.Sampler.ref_run (F := Ideal) m' g')
    exact (congrArg (Cert.Sampler.refVal (F := Ideal)) (hm c)).trans (Cert.Sampler.kern_eq_ref _).symm

/-- The claims, in order. -/
theorem claim : Cert.Claim := ⟨Cert.Kernel.Gen.facts, Cert.KernelIdeal.Gen.facts, Cert.ReferenceIdeal.Gen.facts,
  Cert.Sampler.frame_kernel, Cert.Sampler.frame_ideal, frame_ref, trivial, value_eq⟩

end Cert.Proof

end
